-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S4096x512 : Shape := ⟨2, ![4096, 512]⟩
abbrev S3x4096x512 : Shape := ⟨3, ![3, 4096, 512]⟩
abbrev S15x256x512 : Shape := ⟨3, ![15, 256, 512]⟩
abbrev S3 : Shape := ⟨1, ![3]⟩
abbrev S16 : Shape := ⟨1, ![16]⟩
abbrev S_ : Shape := ⟨0, ![]⟩
abbrev S1 : Shape := ⟨1, ![1]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S256x4096, .bf16⟩
  | .local _ .vmem, ⟨3, _⟩ => ⟨S3x4096x512, .f32⟩
  | .local _ .vmem, ⟨4, _⟩ => ⟨S15x256x512, .bf16⟩
  | .local _ .vmem, ⟨5, _⟩ => ⟨S15x256x512, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 2 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c8_i32_64 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : BitVec 32 := Scalar.addi v2 c8_i32_64
  let c16_i32_65 : BitVec 32 := 16#32
  let v71 : BitVec 32 := Scalar.remsi v70 c16_i32_65
  let c512_i32 : BitVec 32 := 512#32
  let v72 : BitVec 32 := Scalar.muli v71 c512_i32
  ![0, v72.toNat]
def k0_dev16 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_107 : BitVec 32 := 8#32
  let v124 : BitVec 32 := Scalar.addi v2 c8_i32_107
  let c16_i32_108 : BitVec 32 := 16#32
  let v125 : BitVec 32 := Scalar.remsi v124 c16_i32_108
  let c1_i32_113 : BitVec 32 := 1#32
  let v126 : BitVec 32 := Scalar.muli v125 c1_i32_113
  let v127 : BitVec 32 := Scalar.addi c0_i32_114 v126
  v127.toNat
def k0_dev17 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_147 : BitVec 32 := 7#32
  let v174 : BitVec 32 := Scalar.addi v2 c7_i32_147
  let c16_i32_148 : BitVec 32 := 16#32
  let v175 : BitVec 32 := Scalar.remsi v174 c16_i32_148
  let c1_i32_153 : BitVec 32 := 1#32
  let v176 : BitVec 32 := Scalar.muli v175 c1_i32_153
  let v177 : BitVec 32 := Scalar.addi c0_i32_154 v176
  v177.toNat
def k0_dev18 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_187 : BitVec 32 := 9#32
  let v224 : BitVec 32 := Scalar.addi v2 c9_i32_187
  let c16_i32_188 : BitVec 32 := 16#32
  let v225 : BitVec 32 := Scalar.remsi v224 c16_i32_188
  let c1_i32_193 : BitVec 32 := 1#32
  let v226 : BitVec 32 := Scalar.muli v225 c1_i32_193
  let v227 : BitVec 32 := Scalar.addi c0_i32_194 v226
  v227.toNat
def k0_dev19 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_227 : BitVec 32 := 6#32
  let v274 : BitVec 32 := Scalar.addi v2 c6_i32_227
  let c16_i32_228 : BitVec 32 := 16#32
  let v275 : BitVec 32 := Scalar.remsi v274 c16_i32_228
  let c1_i32_233 : BitVec 32 := 1#32
  let v276 : BitVec 32 := Scalar.muli v275 c1_i32_233
  let v277 : BitVec 32 := Scalar.addi c0_i32_234 v276
  v277.toNat
def k0_dev20 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_267 : BitVec 32 := 10#32
  let v324 : BitVec 32 := Scalar.addi v2 c10_i32_267
  let c16_i32_268 : BitVec 32 := 16#32
  let v325 : BitVec 32 := Scalar.remsi v324 c16_i32_268
  let c1_i32_273 : BitVec 32 := 1#32
  let v326 : BitVec 32 := Scalar.muli v325 c1_i32_273
  let v327 : BitVec 32 := Scalar.addi c0_i32_274 v326
  v327.toNat
def k0_dev21 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_307 : BitVec 32 := 5#32
  let v374 : BitVec 32 := Scalar.addi v2 c5_i32_307
  let c16_i32_308 : BitVec 32 := 16#32
  let v375 : BitVec 32 := Scalar.remsi v374 c16_i32_308
  let c1_i32_313 : BitVec 32 := 1#32
  let v376 : BitVec 32 := Scalar.muli v375 c1_i32_313
  let v377 : BitVec 32 := Scalar.addi c0_i32_314 v376
  v377.toNat
def k0_dev22 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_347 : BitVec 32 := 11#32
  let v424 : BitVec 32 := Scalar.addi v2 c11_i32_347
  let c16_i32_348 : BitVec 32 := 16#32
  let v425 : BitVec 32 := Scalar.remsi v424 c16_i32_348
  let c1_i32_353 : BitVec 32 := 1#32
  let v426 : BitVec 32 := Scalar.muli v425 c1_i32_353
  let v427 : BitVec 32 := Scalar.addi c0_i32_354 v426
  v427.toNat
def k0_dev23 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_387 : BitVec 32 := 4#32
  let v474 : BitVec 32 := Scalar.addi v2 c4_i32_387
  let c16_i32_388 : BitVec 32 := 16#32
  let v475 : BitVec 32 := Scalar.remsi v474 c16_i32_388
  let c1_i32_393 : BitVec 32 := 1#32
  let v476 : BitVec 32 := Scalar.muli v475 c1_i32_393
  let v477 : BitVec 32 := Scalar.addi c0_i32_394 v476
  v477.toNat
def k0_dev24 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_427 : BitVec 32 := 12#32
  let v524 : BitVec 32 := Scalar.addi v2 c12_i32_427
  let c16_i32_428 : BitVec 32 := 16#32
  let v525 : BitVec 32 := Scalar.remsi v524 c16_i32_428
  let c1_i32_433 : BitVec 32 := 1#32
  let v526 : BitVec 32 := Scalar.muli v525 c1_i32_433
  let v527 : BitVec 32 := Scalar.addi c0_i32_434 v526
  v527.toNat
def k0_dev25 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_467 : BitVec 32 := 3#32
  let v574 : BitVec 32 := Scalar.addi v2 c3_i32_467
  let c16_i32_468 : BitVec 32 := 16#32
  let v575 : BitVec 32 := Scalar.remsi v574 c16_i32_468
  let c1_i32_473 : BitVec 32 := 1#32
  let v576 : BitVec 32 := Scalar.muli v575 c1_i32_473
  let v577 : BitVec 32 := Scalar.addi c0_i32_474 v576
  v577.toNat
def k0_dev26 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_507 : BitVec 32 := 13#32
  let v624 : BitVec 32 := Scalar.addi v2 c13_i32_507
  let c16_i32_508 : BitVec 32 := 16#32
  let v625 : BitVec 32 := Scalar.remsi v624 c16_i32_508
  let c1_i32_513 : BitVec 32 := 1#32
  let v626 : BitVec 32 := Scalar.muli v625 c1_i32_513
  let v627 : BitVec 32 := Scalar.addi c0_i32_514 v626
  v627.toNat
def k0_dev27 (d0 : Dev nD) : Nat :=
  let c0_i32_554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_547 : BitVec 32 := 2#32
  let v674 : BitVec 32 := Scalar.addi v2 c2_i32_547
  let c16_i32_548 : BitVec 32 := 16#32
  let v675 : BitVec 32 := Scalar.remsi v674 c16_i32_548
  let c1_i32_553 : BitVec 32 := 1#32
  let v676 : BitVec 32 := Scalar.muli v675 c1_i32_553
  let v677 : BitVec 32 := Scalar.addi c0_i32_554 v676
  v677.toNat
def k0_dev28 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_587 : BitVec 32 := 14#32
  let v724 : BitVec 32 := Scalar.addi v2 c14_i32_587
  let c16_i32_588 : BitVec 32 := 16#32
  let v725 : BitVec 32 := Scalar.remsi v724 c16_i32_588
  let c1_i32_593 : BitVec 32 := 1#32
  let v726 : BitVec 32 := Scalar.muli v725 c1_i32_593
  let v727 : BitVec 32 := Scalar.addi c0_i32_594 v726
  v727.toNat
def k0_dev29 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_627 : BitVec 32 := 1#32
  let v774 : BitVec 32 := Scalar.addi v2 c1_i32_627
  let c16_i32_628 : BitVec 32 := 16#32
  let v775 : BitVec 32 := Scalar.remsi v774 c16_i32_628
  let c1_i32_633 : BitVec 32 := 1#32
  let v776 : BitVec 32 := Scalar.muli v775 c1_i32_633
  let v777 : BitVec 32 := Scalar.addi c0_i32_634 v776
  v777.toNat
def k0_dev30 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_659 : BitVec 32 := 15#32
  let v816 : BitVec 32 := Scalar.addi v2 c15_i32_659
  let c16_i32_660 : BitVec 32 := 16#32
  let v817 : BitVec 32 := Scalar.remsi v816 c16_i32_660
  let c1_i32_665 : BitVec 32 := 1#32
  let v818 : BitVec 32 := Scalar.muli v817 c1_i32_665
  let v819 : BitVec 32 := Scalar.addi c0_i32_666 v818
  v819.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v854 : BitVec 32 := Scalar.muli v2 c256_i32
  let v855 : Index := Scalar.indexCast v854
  let c0_689 : Index := 0#32
  ![v855.toNat, 0]
def k0_off3 (d0 : Dev nD) (c8_i32_856 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_855 : BitVec 32 := 16#32
  let v977 : BitVec 32 := Scalar.addi v2 c16_i32_855
  let v978 : BitVec 32 := Scalar.subi v977 c8_i32_856
  let c16_i32_857 : BitVec 32 := 16#32
  let v979 : BitVec 32 := Scalar.remsi v978 c16_i32_857
  let c256_i32_872 : BitVec 32 := 256#32
  let v991 : BitVec 32 := Scalar.muli v979 c256_i32_872
  let v992 : Index := Scalar.indexCast v991
  let c0_873 : Index := 0#32
  ![v992.toNat, 0]
def k0_dev31 (d0 : Dev nD) : Nat :=
  let c0_i32_1144_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1140_r0 : BitVec 32 := 1#32
  let v1233_r0 : BitVec 32 := Scalar.addi v2 c1_i32_1140_r0
  let c16_i32_1141_r0 : BitVec 32 := 16#32
  let v1234_r0 : BitVec 32 := Scalar.remsi v1233_r0 c16_i32_1141_r0
  let c1_i32_1143_r0 : BitVec 32 := 1#32
  let v1235_r0 : BitVec 32 := Scalar.muli v1234_r0 c1_i32_1143_r0
  let v1236_r0 : BitVec 32 := Scalar.addi c0_i32_1144_r0 v1235_r0
  v1236_r0.toNat
def k0_dev32 (d0 : Dev nD) : Nat :=
  let c0_i32_1149_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1145_r0 : BitVec 32 := 2#32
  let v1237_r0 : BitVec 32 := Scalar.addi v2 c2_i32_1145_r0
  let c16_i32_1146_r0 : BitVec 32 := 16#32
  let v1238_r0 : BitVec 32 := Scalar.remsi v1237_r0 c16_i32_1146_r0
  let c1_i32_1148_r0 : BitVec 32 := 1#32
  let v1239_r0 : BitVec 32 := Scalar.muli v1238_r0 c1_i32_1148_r0
  let v1240_r0 : BitVec 32 := Scalar.addi c0_i32_1149_r0 v1239_r0
  v1240_r0.toNat
def k0_dev33 (d0 : Dev nD) : Nat :=
  let c0_i32_1154_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1150_r0 : BitVec 32 := 3#32
  let v1241_r0 : BitVec 32 := Scalar.addi v2 c3_i32_1150_r0
  let c16_i32_1151_r0 : BitVec 32 := 16#32
  let v1242_r0 : BitVec 32 := Scalar.remsi v1241_r0 c16_i32_1151_r0
  let c1_i32_1153_r0 : BitVec 32 := 1#32
  let v1243_r0 : BitVec 32 := Scalar.muli v1242_r0 c1_i32_1153_r0
  let v1244_r0 : BitVec 32 := Scalar.addi c0_i32_1154_r0 v1243_r0
  v1244_r0.toNat
def k0_dev34 (d0 : Dev nD) : Nat :=
  let c0_i32_1159_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1155_r0 : BitVec 32 := 4#32
  let v1245_r0 : BitVec 32 := Scalar.addi v2 c4_i32_1155_r0
  let c16_i32_1156_r0 : BitVec 32 := 16#32
  let v1246_r0 : BitVec 32 := Scalar.remsi v1245_r0 c16_i32_1156_r0
  let c1_i32_1158_r0 : BitVec 32 := 1#32
  let v1247_r0 : BitVec 32 := Scalar.muli v1246_r0 c1_i32_1158_r0
  let v1248_r0 : BitVec 32 := Scalar.addi c0_i32_1159_r0 v1247_r0
  v1248_r0.toNat
def k0_dev35 (d0 : Dev nD) : Nat :=
  let c0_i32_1164_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1160_r0 : BitVec 32 := 5#32
  let v1249_r0 : BitVec 32 := Scalar.addi v2 c5_i32_1160_r0
  let c16_i32_1161_r0 : BitVec 32 := 16#32
  let v1250_r0 : BitVec 32 := Scalar.remsi v1249_r0 c16_i32_1161_r0
  let c1_i32_1163_r0 : BitVec 32 := 1#32
  let v1251_r0 : BitVec 32 := Scalar.muli v1250_r0 c1_i32_1163_r0
  let v1252_r0 : BitVec 32 := Scalar.addi c0_i32_1164_r0 v1251_r0
  v1252_r0.toNat
def k0_dev36 (d0 : Dev nD) : Nat :=
  let c0_i32_1169_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1165_r0 : BitVec 32 := 6#32
  let v1253_r0 : BitVec 32 := Scalar.addi v2 c6_i32_1165_r0
  let c16_i32_1166_r0 : BitVec 32 := 16#32
  let v1254_r0 : BitVec 32 := Scalar.remsi v1253_r0 c16_i32_1166_r0
  let c1_i32_1168_r0 : BitVec 32 := 1#32
  let v1255_r0 : BitVec 32 := Scalar.muli v1254_r0 c1_i32_1168_r0
  let v1256_r0 : BitVec 32 := Scalar.addi c0_i32_1169_r0 v1255_r0
  v1256_r0.toNat
def k0_dev37 (d0 : Dev nD) : Nat :=
  let c0_i32_1174_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1170_r0 : BitVec 32 := 7#32
  let v1257_r0 : BitVec 32 := Scalar.addi v2 c7_i32_1170_r0
  let c16_i32_1171_r0 : BitVec 32 := 16#32
  let v1258_r0 : BitVec 32 := Scalar.remsi v1257_r0 c16_i32_1171_r0
  let c1_i32_1173_r0 : BitVec 32 := 1#32
  let v1259_r0 : BitVec 32 := Scalar.muli v1258_r0 c1_i32_1173_r0
  let v1260_r0 : BitVec 32 := Scalar.addi c0_i32_1174_r0 v1259_r0
  v1260_r0.toNat
def k0_dev38 (d0 : Dev nD) : Nat :=
  let c0_i32_1179_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1175_r0 : BitVec 32 := 8#32
  let v1261_r0 : BitVec 32 := Scalar.addi v2 c8_i32_1175_r0
  let c16_i32_1176_r0 : BitVec 32 := 16#32
  let v1262_r0 : BitVec 32 := Scalar.remsi v1261_r0 c16_i32_1176_r0
  let c1_i32_1178_r0 : BitVec 32 := 1#32
  let v1263_r0 : BitVec 32 := Scalar.muli v1262_r0 c1_i32_1178_r0
  let v1264_r0 : BitVec 32 := Scalar.addi c0_i32_1179_r0 v1263_r0
  v1264_r0.toNat
def k0_dev39 (d0 : Dev nD) : Nat :=
  let c0_i32_1184_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1180_r0 : BitVec 32 := 9#32
  let v1265_r0 : BitVec 32 := Scalar.addi v2 c9_i32_1180_r0
  let c16_i32_1181_r0 : BitVec 32 := 16#32
  let v1266_r0 : BitVec 32 := Scalar.remsi v1265_r0 c16_i32_1181_r0
  let c1_i32_1183_r0 : BitVec 32 := 1#32
  let v1267_r0 : BitVec 32 := Scalar.muli v1266_r0 c1_i32_1183_r0
  let v1268_r0 : BitVec 32 := Scalar.addi c0_i32_1184_r0 v1267_r0
  v1268_r0.toNat
def k0_dev40 (d0 : Dev nD) : Nat :=
  let c0_i32_1189_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1185_r0 : BitVec 32 := 10#32
  let v1269_r0 : BitVec 32 := Scalar.addi v2 c10_i32_1185_r0
  let c16_i32_1186_r0 : BitVec 32 := 16#32
  let v1270_r0 : BitVec 32 := Scalar.remsi v1269_r0 c16_i32_1186_r0
  let c1_i32_1188_r0 : BitVec 32 := 1#32
  let v1271_r0 : BitVec 32 := Scalar.muli v1270_r0 c1_i32_1188_r0
  let v1272_r0 : BitVec 32 := Scalar.addi c0_i32_1189_r0 v1271_r0
  v1272_r0.toNat
def k0_dev41 (d0 : Dev nD) : Nat :=
  let c0_i32_1194_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1190_r0 : BitVec 32 := 11#32
  let v1273_r0 : BitVec 32 := Scalar.addi v2 c11_i32_1190_r0
  let c16_i32_1191_r0 : BitVec 32 := 16#32
  let v1274_r0 : BitVec 32 := Scalar.remsi v1273_r0 c16_i32_1191_r0
  let c1_i32_1193_r0 : BitVec 32 := 1#32
  let v1275_r0 : BitVec 32 := Scalar.muli v1274_r0 c1_i32_1193_r0
  let v1276_r0 : BitVec 32 := Scalar.addi c0_i32_1194_r0 v1275_r0
  v1276_r0.toNat
def k0_dev42 (d0 : Dev nD) : Nat :=
  let c0_i32_1199_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1195_r0 : BitVec 32 := 12#32
  let v1277_r0 : BitVec 32 := Scalar.addi v2 c12_i32_1195_r0
  let c16_i32_1196_r0 : BitVec 32 := 16#32
  let v1278_r0 : BitVec 32 := Scalar.remsi v1277_r0 c16_i32_1196_r0
  let c1_i32_1198_r0 : BitVec 32 := 1#32
  let v1279_r0 : BitVec 32 := Scalar.muli v1278_r0 c1_i32_1198_r0
  let v1280_r0 : BitVec 32 := Scalar.addi c0_i32_1199_r0 v1279_r0
  v1280_r0.toNat
def k0_dev43 (d0 : Dev nD) : Nat :=
  let c0_i32_1204_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1200_r0 : BitVec 32 := 13#32
  let v1281_r0 : BitVec 32 := Scalar.addi v2 c13_i32_1200_r0
  let c16_i32_1201_r0 : BitVec 32 := 16#32
  let v1282_r0 : BitVec 32 := Scalar.remsi v1281_r0 c16_i32_1201_r0
  let c1_i32_1203_r0 : BitVec 32 := 1#32
  let v1283_r0 : BitVec 32 := Scalar.muli v1282_r0 c1_i32_1203_r0
  let v1284_r0 : BitVec 32 := Scalar.addi c0_i32_1204_r0 v1283_r0
  v1284_r0.toNat
def k0_dev44 (d0 : Dev nD) : Nat :=
  let c0_i32_1209_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1205_r0 : BitVec 32 := 14#32
  let v1285_r0 : BitVec 32 := Scalar.addi v2 c14_i32_1205_r0
  let c16_i32_1206_r0 : BitVec 32 := 16#32
  let v1286_r0 : BitVec 32 := Scalar.remsi v1285_r0 c16_i32_1206_r0
  let c1_i32_1208_r0 : BitVec 32 := 1#32
  let v1287_r0 : BitVec 32 := Scalar.muli v1286_r0 c1_i32_1208_r0
  let v1288_r0 : BitVec 32 := Scalar.addi c0_i32_1209_r0 v1287_r0
  v1288_r0.toNat
def k0_dev45 (d0 : Dev nD) : Nat :=
  let c0_i32_1214_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1210_r0 : BitVec 32 := 15#32
  let v1289_r0 : BitVec 32 := Scalar.addi v2 c15_i32_1210_r0
  let c16_i32_1211_r0 : BitVec 32 := 16#32
  let v1290_r0 : BitVec 32 := Scalar.remsi v1289_r0 c16_i32_1211_r0
  let c1_i32_1213_r0 : BitVec 32 := 1#32
  let v1291_r0 : BitVec 32 := Scalar.muli v1290_r0 c1_i32_1213_r0
  let v1292_r0 : BitVec 32 := Scalar.addi c0_i32_1214_r0 v1291_r0
  v1292_r0.toNat
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Same.lean ====
/-
# The two programs are one

The program printed for reading over the reals has the text of the program printed over bits, as no
operation of it was rewritten: their tables of bodies and their entry points are equal.
-/
module

public import proofs.«01_k».proof.Defs
public import proofs.«01_k».proof.Proof.Gen.Kernel
public import proofs.«01_k».proof.Proof.Gen.KernelIdeal

@[expose] public section

set_option maxRecDepth 100000

noncomputable section

namespace Cert.AllToAllGelu

open Idealize.ShloMosaic Idealize.SL.Sem

variable {F : FTy → Type} [FloatOps F]

/-- The bodies of the one call are the same. -/
theorem bodies_eq : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl

/-- So are the tables of everything the entry point calls. -/
theorem defs_eq : Cert.Kernel.defs (F := F) = Cert.KernelIdeal.defs (F := F) := by
  unfold Cert.Kernel.defs Cert.KernelIdeal.defs
  rw [bodies_eq]
  rfl

end Cert.AllToAllGelu

end
-- ==== Proof.Steps.lean ====
/-
# The kernel's body as steps

The printed body cut into the steps the program was written in: the entry handshake, the store of the block of `x` in
bf16, a fetch of a block of columns of `w_mat`, a product sent to its owner, the product this device keeps, the waits,
and the exit handshake.  `body_eq` says the printed body is these steps in order.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAllGelu

open Cert.KernelIdeal Cert.KernelIdeal.Gen
open Idealize.ShloMosaic Idealize.ShloMosaic.TcCoe
open Idealize.SL Idealize.SL.Sem

variable {F : FTy → Type} [FloatOps F]

/-! ## The schedule's tables -/

/-- The shift of step `t`: at step `t` a device computes the columns of the device that many places on. -/
def order : Fin 16 → Fin 16 := ![8, 7, 9, 6, 10, 5, 11, 4, 12, 3, 13, 2, 14, 1, 15, 0]

/-- The shift of a sending step, less one. -/
def orderR : Fin 15 → Fin 15 := ![7, 6, 8, 5, 9, 4, 10, 3, 11, 2, 12, 1, 13, 0, 14]

/-- The devices the entry handshake signals, in order. -/
def barDev (d : Dev nD) : Fin 15 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩]

/-- The devices the transfers go to, step by step. -/
def sendDev (d : Dev nD) : Fin 15 → Dev nD :=
  ![⟨k0_dev16 d, k0_dev16_lt d⟩, ⟨k0_dev17 d, k0_dev17_lt d⟩, ⟨k0_dev18 d, k0_dev18_lt d⟩, ⟨k0_dev19 d, k0_dev19_lt d⟩,
    ⟨k0_dev20 d, k0_dev20_lt d⟩, ⟨k0_dev21 d, k0_dev21_lt d⟩, ⟨k0_dev22 d, k0_dev22_lt d⟩, ⟨k0_dev23 d, k0_dev23_lt d⟩,
    ⟨k0_dev24 d, k0_dev24_lt d⟩, ⟨k0_dev25 d, k0_dev25_lt d⟩, ⟨k0_dev26 d, k0_dev26_lt d⟩, ⟨k0_dev27 d, k0_dev27_lt d⟩,
    ⟨k0_dev28 d, k0_dev28_lt d⟩, ⟨k0_dev29 d, k0_dev29_lt d⟩, ⟨k0_dev30 d, k0_dev30_lt d⟩]

/-- The devices the exit handshake signals, in order. -/
def exitDev (d : Dev nD) : Fin 15 → Dev nD :=
  ![⟨k0_dev31 d, k0_dev31_lt d⟩, ⟨k0_dev32 d, k0_dev32_lt d⟩, ⟨k0_dev33 d, k0_dev33_lt d⟩, ⟨k0_dev34 d, k0_dev34_lt d⟩,
    ⟨k0_dev35 d, k0_dev35_lt d⟩, ⟨k0_dev36 d, k0_dev36_lt d⟩, ⟨k0_dev37 d, k0_dev37_lt d⟩, ⟨k0_dev38 d, k0_dev38_lt d⟩,
    ⟨k0_dev39 d, k0_dev39_lt d⟩, ⟨k0_dev40 d, k0_dev40_lt d⟩, ⟨k0_dev41 d, k0_dev41_lt d⟩, ⟨k0_dev42 d, k0_dev42_lt d⟩,
    ⟨k0_dev43 d, k0_dev43_lt d⟩, ⟨k0_dev44 d, k0_dev44_lt d⟩, ⟨k0_dev45 d, k0_dev45_lt d⟩]

/-! ## Semaphores -/

abbrev barSem : Sem sig := (SemArray.scalar (sig.barrier 0 rfl) : Sems sig S_).sem
abbrev exitSem : Sem sig := (cc0_scoped0 : Sems sig S_).sem

theorem inbSem3 (k : Fin 3) : ∀ a, (![k.val] : Fin 1 → Nat) a + S1.size a ≤ S3.size a := by revert k; decide
theorem inbSem16 (s : Fin 15) : ∀ a, (![s.val] : Fin 1 → Nat) a + S1.size a ≤ S16.size a := by revert s; decide

def copySem (k : Fin 3) : DmaSem sig :=
  ((cc0_scratch4.slice (Rect.unit (s := S3) ![k.val] S1.size (inbSem3 k))).squeeze S_ squeezes_S1_S_).sem
def sendSem (s : Fin 15) : DmaSem sig :=
  ((cc0_scratch5.slice (Rect.unit (s := S16) ![s.val] S1.size (inbSem16 s))).squeeze S_ squeezes_S1_S_).sem
def recvSem (s : Fin 15) : DmaSem sig :=
  ((cc0_scratch6.slice (Rect.unit (s := S16) ![s.val] S1.size (inbSem16 s))).squeeze S_ squeezes_S1_S_).sem

/-! ## Views -/

abbrev xM : Memref sig .tc .vmem S256x4096 .bf16 := Memref.whole cc0_scratch0
abbrev wBufM : Memref sig .tc .vmem S3x4096x512 .f32 := Memref.whole cc0_scratch1
abbrev sBufM : Memref sig .tc .vmem S15x256x512 .bf16 := Memref.whole cc0_scratch2
abbrev rBufM : Memref sig .tc .vmem S15x256x512 .bf16 := Memref.whole cc0_scratch3
abbrev wM : Memref sig .tc .hbm S4096x8192 .f32 := Memref.whole main_arg1

theorem hsBufM : sBufM.IsWhole := Memref.isWhole_whole _
theorem hrBufM : rBufM.IsWhole := Memref.isWhole_whole _
theorem hxM : xM.IsWhole := Memref.isWhole_whole _

theorem inbW (k : Fin 3) : ∀ a, (![k.val, 0, 0] : Fin 3 → Nat) a + S1x4096x512.size a ≤ S3x4096x512.size a := by
  revert k; decide
theorem inbB (s : Fin 15) : ∀ a, (![s.val, 0, 0] : Fin 3 → Nat) a + S1x256x512.size a ≤ S15x256x512.size a := by
  revert s; decide

abbrev wRect (k : Fin 3) : Rect S3x4096x512 := Rect.unit (s := S3x4096x512) ![k.val, 0, 0] S1x4096x512.size (inbW k)
abbrev bRect (s : Fin 15) : Rect S15x256x512 := Rect.unit (s := S15x256x512) ![s.val, 0, 0] S1x256x512.size (inbB s)

theorem bRect_packed (s : Fin 15) : (bRect s).PackedRows (EltTy.packing .bf16) := by revert s; decide
theorem bRect_words (s : Fin 15) : (bRect s).WholeWords (EltTy.packing .bf16) := by revert s; decide

def wSlot (k : Fin 3) : Memref sig .tc .vmem S4096x512 .f32 :=
  (wBufM.slice (wRect k) (fun _ => rfl)).squeeze S4096x512 squeezes_S1x4096x512_S4096x512
def sSlot (s : Fin 15) : Memref sig .tc .vmem S256x512 .bf16 :=
  (sBufM.slice (bRect s) (fun _ => rfl)).squeeze S256x512 squeezes_S1x256x512_S256x512
def rSlot (s : Fin 15) : Memref sig .tc .vmem S256x512 .bf16 :=
  (rBufM.slice (bRect s) (fun _ => rfl)).squeeze S256x512 squeezes_S1x256x512_S256x512

/-- The block of columns of `w_mat` step `t` fetches. -/
abbrev wSrcRect (d : Dev nD) (t : Fin 16) : Rect S4096x8192 :=
  Rect.unit (s := S4096x8192) (k0_off1 d (BitVec.ofNat 32 (order t).val)) S4096x512.size (k0_off1_inb d (order t))
def wSrc (d : Dev nD) (t : Fin 16) : Memref sig .tc .hbm S4096x512 .f32 := wM.slice (wSrcRect d t) (fun _ => rfl)

/-- The rows of the result this device computes itself, and the rows of the device it hears from at slot `s`. -/
abbrev ownRect (d : Dev nD) : Rect S4096x512 := Rect.unit (s := S4096x512) (k0_off2 d) S256x512.size (k0_off2_inb d)
abbrev fromRect (d : Dev nD) (s : Fin 15) : Rect S4096x512 :=
  Rect.unit (s := S4096x512) (k0_off3 d (BitVec.ofNat 32 (1 + (orderR s).val))) S256x512.size (k0_off3_inb d (orderR s))

/-! ## What the steps compute -/

/-- The product of the rows of `x` in bf16 with a fetched block of columns, through gelu, in f32. -/
def blockOf (x : Vec F S256x4096 .bf16) (w : Vec F S1x4096x512 .f32) : FVec F S256x512 .f32 := k0_pay34 x w

/-- The same in bf16, as a slot of the send buffer. -/
def sentOf (x : Vec F S256x4096 .bf16) (w : Vec F S1x4096x512 .f32) : FVec F S1x256x512 .bf16 := k0_pay2 x w

/-- A received slot in f32. -/
def gotOf (r : Vec F S1x256x512 .bf16) : FVec F S256x512 .f32 := k0_pay35 r

/-! ## The steps -/

abbrev Code (F : FTy → Type) : Type 1 := Prog (TpuEff nD τ sig (Elt F) Λ₀ .tc) PUnit

/-- The steps of a list, one after the other. -/
def runAll {ι : Type} (f : ι → Code F) : List ι → Code F → Code F
  | [], k => k
  | i :: l, k => f i >>= fun _ => runAll f l k

def slotOf (t : Fin 16) : Fin 3 := ![0, 1, 2, 0, 1, 2, 0, 1, 2, 0, 1, 2, 0, 1, 2, 0] t

def barStep (d : Dev nD) (i : Fin 15) : Code F := semSignalWord (barDev d i) barSem 1#32

def castStep (xStage : Memref sig .tc .vmem S256x4096 .f32) : Code F := do
  let v : Vec F S256x4096 .f32 ← Prog.lift (.load xStage (Rect.unit (s := S256x4096) ![0, 0] S256x4096.size inb_S256x4096_S256x4096_0_0).toLoadRect (View.loadsAt_vmem h_S256x4096))
  let _ ← (Prog.lift (.load xM (Rect.unit (s := S256x4096) ![0, 0] S256x4096.size inb_S256x4096_S256x4096_0_0).toLoadRect (View.loadsAt_vmem h_S256x4096)) : Prog (TpuEff nD τ sig (Elt F) Λ₀ .tc) (Vec F S256x4096 .bf16))
  Prog.lift (.store xM (Rect.unit (s := S256x4096) ![0, 0] S256x4096.size inb_S256x4096_S256x4096_0_0) (k0_pay1 v) Finset.univ (View.stores_vmem h_S256x4096 (hxM.storeExact_slice rfl _ packedbf16_S256x4096_S256x4096_0_0) (fun _ => rfl)) (.inl rfl))

def fetchStep (d : Dev nD) (t : Fin 16) : Code F :=
  Prog.lift (.enqueueDma (wSrc d t) (.here (wSlot (slotOf t))) (.dma (copySem (slotOf t))) (View.wordExact_bits rfl) ((View.wordExact_bits rfl).reshape _ _) ⟨Or.inl rfl, trivial⟩)

def fetchWait (d : Dev nD) (t : Fin 16) : Code F :=
  Prog.lift (.waitDma2 (copySem (slotOf t)) (wSrc d t) (wSlot (slotOf t)) (View.wordExact_bits rfl) ((View.wordExact_bits rfl).reshape _ _))

def sendStep (d : Dev nD) (s : Fin 15) : Code F := do
  fetchWait d s.castSucc
  let x : Vec F S256x4096 .bf16 ← Prog.lift (.load xM (Rect.unit (s := S256x4096) ![0, 0] S256x4096.size inb_S256x4096_S256x4096_0_0).toLoadRect (View.loadsAt_vmem h_S256x4096))
  let w : Vec F S1x4096x512 .f32 ← Prog.lift (.load wBufM (wRect (slotOf s.castSucc)).toLoadRect (View.loadsAt_vmem h_S1x4096x512))
  let _ ← (Prog.lift (.load sBufM (bRect s).toLoadRect (View.loadsAt_vmem h_S1x256x512)) : Prog (TpuEff nD τ sig (Elt F) Λ₀ .tc) (Vec F S1x256x512 .bf16))
  Prog.lift (.store sBufM (bRect s) (sentOf x w) Finset.univ (View.stores_vmem h_S1x256x512 (hsBufM.storeExact_slice rfl _ (bRect_packed s)) (fun _ => rfl)) (.inl rfl))
  Prog.lift (.enqueueDma (sSlot s) (.remote (Dev.tc (sendDev d s)) (rSlot s) (.dma (sendSem s))) (.dma (recvSem s)) ((hsBufM.wordExact_slice rfl _ (bRect_words s)).reshape _ _) ((hrBufM.wordExact_slice rfl _ (bRect_words s)).reshape _ _) ⟨⟨rfl, Or.inl rfl⟩, trivial⟩)

/-- A sending step with the fetch two steps ahead in front. -/
def fetchSend (d : Dev nD) (s : Fin 14) : Code F := do
  fetchStep d s.succ.succ
  sendStep d s.castSucc

def ownStep (outStage : Memref sig .tc .vmem S4096x512 .f32) (d : Dev nD) : Code F := do
  fetchWait d 15
  let x : Vec F S256x4096 .bf16 ← Prog.lift (.load xM (Rect.unit (s := S256x4096) ![0, 0] S256x4096.size inb_S256x4096_S256x4096_0_0).toLoadRect (View.loadsAt_vmem h_S256x4096))
  let w : Vec F S1x4096x512 .f32 ← Prog.lift (.load wBufM (wRect (slotOf 15)).toLoadRect (View.loadsAt_vmem h_S1x4096x512))
  let _ ← (Prog.lift (.load outStage (ownRect d).toLoadRect (View.loadsAt_vmem h_S256x512)) : Prog (TpuEff nD τ sig (Elt F) Λ₀ .tc) (Vec F S256x512 .f32))
  Prog.lift (.store outStage (ownRect d) (blockOf x w) Finset.univ (View.stores_vmem_bits_univ h_S256x512 rfl) (.inl rfl))

def sendWait (s : Fin 15) : Code F :=
  Prog.lift (.waitDma2 (sendSem s) (rSlot s) (sSlot s) ((hrBufM.wordExact_slice rfl _ (bRect_words s)).reshape _ _) ((hsBufM.wordExact_slice rfl _ (bRect_words s)).reshape _ _))

def recvStep (outStage : Memref sig .tc .vmem S4096x512 .f32) (d : Dev nD) (s : Fin 15) : Code F := do
  Prog.lift (.waitDma2 (recvSem s) (sSlot 0) (rSlot s) ((hsBufM.wordExact_slice rfl _ (bRect_words 0)).reshape _ _) ((hrBufM.wordExact_slice rfl _ (bRect_words s)).reshape _ _))
  let r : Vec F S1x256x512 .bf16 ← Prog.lift (.load rBufM (bRect s).toLoadRect (View.loadsAt_vmem h_S1x256x512))
  let _ ← (Prog.lift (.load outStage (fromRect d s).toLoadRect (View.loadsAt_vmem h_S256x512)) : Prog (TpuEff nD τ sig (Elt F) Λ₀ .tc) (Vec F S256x512 .f32))
  Prog.lift (.store outStage (fromRect d s) (gotOf r) Finset.univ (View.stores_vmem_bits_univ h_S256x512 rfl) (.inl rfl))

def exitStep (d : Dev nD) (i : Fin 15) : Code F := semSignalWord (exitDev d i) exitSem 1#32

def fifteen : List (Fin 15) := [0, 1, 2, 3, 4, 5, 6, 7, 8, 9, 10, 11, 12, 13, 14]
def fourteen : List (Fin 14) := [0, 1, 2, 3, 4, 5, 6, 7, 8, 9, 10, 11, 12, 13]

/-- The body after the device's number is read. -/
def rest (xStage : Memref sig .tc .vmem S256x4096 .f32) (outStage : Memref sig .tc .vmem S4096x512 .f32) (d : Dev nD) :
    Code F :=
  runAll (barStep d) fifteen <|
  (semWaitWord barSem 15#32 : Code F) >>= fun _ =>
  castStep xStage >>= fun _ =>
  fetchStep d 0 >>= fun _ =>
  fetchStep d 1 >>= fun _ =>
  runAll (fetchSend d) fourteen <|
  sendStep d 14 >>= fun _ =>
  ownStep outStage d >>= fun _ =>
  runAll sendWait fifteen <|
  runAll (recvStep outStage d) fifteen <|
  runAll (exitStep d) fifteen <|
  semWaitWord exitSem 15#32

/-- The body as steps. -/
def body (xStage : Memref sig .tc .vmem S256x4096 .f32) (outStage : Memref sig .tc .vmem S4096x512 .f32) : Code F :=
  Prog.lift .deviceId >>= fun d => rest xStage outStage d

theorem body_eq (t : Fin cfg0.N) :
    bodyAt0 (F := F) t = body (win0_0.stage (cfg0.slots t 0)) (win0_1.stage (cfg0.slots t 1)) := by
  chain_rfl

end Cert.AllToAllGelu

end
-- ==== Proof.Cells.lean ====
/-
# Who hears from whom, the cells, what they hold, and what each device owes

The shifts of the schedule as maps of the ring of sixteen devices; the semaphores the devices meet at; what every buffer
holds at the points where it changes hands; and the order the waits go in.
-/
module

public import proofs.«01_k».proof.Proof.Steps
public import Idealize.ShloMosaic.Lib.Pipeline.Value

@[expose] public section

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's copy, the handshakes' and transfers' (duties `Fin 15`), the fetches' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans (uEmb (nD := nD) (τ := τ) (sig := sig)).toEmb
instance : (ER (F := F)).LandsIn (upEmb : UEmb _ 𝕄) := by unfold ER; infer_instance
abbrev EC : UEmb Counters (MT nD τ sig Unit (Elt F) ℕ UU ℕ) := countersEmb

/-! ## The ring -/

/-- The device `c` sends to at step `s`. -/
def peer (s : Fin 15) (c : Dev nD) : Dev nD := (c + order s.castSucc : Fin 16)
/-- The device `c` hears from at slot `s`. -/
def src (s : Fin 15) (c : Dev nD) : Dev nD := (c - order s.castSucc : Fin 16)
/-- The slot the `i`-th signal of a handshake speaks of. -/
def stepOf : Fin 15 → Fin 15 := ![14, 12, 10, 8, 6, 4, 2, 0, 1, 3, 5, 7, 9, 11, 13]
/-- The signal that speaks of slot `s`. -/
def sigOf : Fin 15 → Fin 15 := ![7, 8, 6, 9, 5, 10, 4, 11, 3, 12, 2, 13, 1, 14, 0]

theorem src_peer : ∀ (s : Fin 15) (c : Dev nD), src s (peer s c) = c := by decide +kernel
theorem peer_src : ∀ (s : Fin 15) (c : Dev nD), peer s (src s c) = c := by decide +kernel
theorem peer_ne : ∀ (s : Fin 15) (c : Dev nD), peer s c ≠ c := by decide +kernel
theorem src_ne : ∀ (s : Fin 15) (c : Dev nD), src s c ≠ c := by decide +kernel
theorem src_ne_of_ne : ∀ (c : Dev nD) (s s' : Fin 15), s ≠ s' → src s c ≠ src s' c := by decide +kernel
theorem src_cover : ∀ (c d : Dev nD), d ≠ c → ∃ s, src s c = d := by decide +kernel
theorem sigOf_stepOf : ∀ i, sigOf (stepOf i) = i := by decide
theorem stepOf_sigOf : ∀ s, stepOf (sigOf s) = s := by decide

def ring (s : Fin 15) : Dev nD ≃ Dev nD := ⟨peer s, src s, src_peer s, peer_src s⟩
def stepEquiv : Fin 15 ≃ Fin 15 := ⟨stepOf, sigOf, sigOf_stepOf, stepOf_sigOf⟩

theorem barDev_eq (c : Dev nD) (i : Fin 15) : barDev c i = src (stepOf i) c := by
  have h : ∀ (c : Dev nD) (i : Fin 15), (src (stepOf i) c).val = (c.val + (i.val + 1)) % 16 := by decide +kernel
  refine Fin.ext ((?_ : (barDev c i).val = (c.val + (i.val + 1)) % 16).trans (h c i).symm)
  fin_cases i
  exacts [k0_dev1_eq c, k0_dev2_eq c, k0_dev3_eq c, k0_dev4_eq c, k0_dev5_eq c, k0_dev6_eq c, k0_dev7_eq c, k0_dev8_eq c,
    k0_dev9_eq c, k0_dev10_eq c, k0_dev11_eq c, k0_dev12_eq c, k0_dev13_eq c, k0_dev14_eq c, k0_dev15_eq c]

theorem exitDev_eq (c : Dev nD) (i : Fin 15) : exitDev c i = src (stepOf i) c := by
  have h : ∀ (c : Dev nD) (i : Fin 15), (src (stepOf i) c).val = (c.val + (i.val + 1)) % 16 := by decide +kernel
  refine Fin.ext ((?_ : (exitDev c i).val = (c.val + (i.val + 1)) % 16).trans (h c i).symm)
  fin_cases i
  exacts [k0_dev31_eq c, k0_dev32_eq c, k0_dev33_eq c, k0_dev34_eq c, k0_dev35_eq c, k0_dev36_eq c, k0_dev37_eq c, k0_dev38_eq c,
    k0_dev39_eq c, k0_dev40_eq c, k0_dev41_eq c, k0_dev42_eq c, k0_dev43_eq c, k0_dev44_eq c, k0_dev45_eq c]

theorem sendDev_eq (c : Dev nD) (s : Fin 15) : sendDev c s = peer s c := by
  have h : ∀ (c : Dev nD) (s : Fin 15), (peer s c).val = (c.val + (order s.castSucc).val) % 16 := by decide +kernel
  refine Fin.ext ((?_ : (sendDev c s).val = (c.val + (order s.castSucc).val) % 16).trans (h c s).symm)
  fin_cases s
  exacts [k0_dev16_eq c, k0_dev17_eq c, k0_dev18_eq c, k0_dev19_eq c, k0_dev20_eq c, k0_dev21_eq c, k0_dev22_eq c, k0_dev23_eq c,
    k0_dev24_eq c, k0_dev25_eq c, k0_dev26_eq c, k0_dev27_eq c, k0_dev28_eq c, k0_dev29_eq c, k0_dev30_eq c]

/-! ## The rectangles in closed form -/

/-- The device whose columns step `t` computes. -/
def colOf (t : Fin 16) (c : Dev nD) : Dev nD := (c + order t : Fin 16)
theorem colOf_castSucc (s : Fin 15) (c : Dev nD) : colOf s.castSucc c = peer s c := rfl
theorem colOf_last : ∀ c : Dev nD, colOf 15 c = c := by decide
theorem colOf_ne_of_ne : ∀ (c : Dev nD) (t t' : Fin 16), t ≠ t' → colOf t c ≠ colOf t' c := by decide +kernel
theorem colOf_cover : ∀ (c d : Dev nD), ∃ t, colOf t c = d := by decide +kernel

theorem inbCol : ∀ e : Dev nD, ∀ a, (![0, 512 * e.val] : Fin 2 → Nat) a + S4096x512.size a ≤ S4096x8192.size a := by decide +kernel
theorem inbRow : ∀ d : Dev nD, ∀ a, (![256 * d.val, 0] : Fin 2 → Nat) a + S256x512.size a ≤ S4096x512.size a := by decide +kernel
/-- Device `e`'s columns of `w_mat`. -/
abbrev wCol (e : Dev nD) : Rect S4096x8192 := Rect.unit (s := S4096x8192) ![0, 512 * e.val] S4096x512.size (inbCol e)
/-- Device `d`'s rows of the result. -/
abbrev rowRect (d : Dev nD) : Rect S4096x512 := Rect.unit (s := S4096x512) ![256 * d.val, 0] S256x512.size (inbRow d)

theorem unit_congr {s : Shape} {o o' : Fin s.rank → Nat} {z : Fin s.rank → Nat} (h : o = o') (hi hi') :
    (Rect.unit (s := s) o z hi) = Rect.unit (s := s) o' z hi' := by subst h; rfl

theorem off1_eq (c : Dev nD) (t : Fin 16) : k0_off1 c (BitVec.ofNat 32 (order t).val) = ![0, 512 * (colOf t c).val] := by
  rw [k0_off1_eq]; congr 1
theorem off2_eq (c : Dev nD) : k0_off2 c = ![256 * c.val, 0] := k0_off2_eq c
theorem off3_eq (c : Dev nD) (s : Fin 15) : k0_off3 c (BitVec.ofNat 32 (1 + (orderR s).val)) = ![256 * (src s c).val, 0] := by
  rw [k0_off3_eq, (by decide +kernel : ∀ (c : Dev nD) (s : Fin 15), ((c.val + 15) - (orderR s).val) % 16 = (src s c).val) c s]

theorem wSrcRect_eq (c : Dev nD) (t : Fin 16) : wSrcRect c t = wCol (colOf t c) := unit_congr (off1_eq c t) _ _
theorem ownRect_eq (c : Dev nD) : ownRect c = rowRect c := unit_congr (off2_eq c) _ _
theorem fromRect_eq (c : Dev nD) (s : Fin 15) : fromRect c s = rowRect (src s c) := unit_congr (off3_eq c s) _ _

/-! ## The cells -/

abbrev Kix : Type := Fin 2 ⊕ (Fin 15 ⊕ Fin 15)
/-- The semaphores devices meet at: the entry handshake's, the exit handshake's, the send and the receive semaphores. -/
def csem : Kix → SemLoc sig
  | .inl 0 => .reg barSem
  | .inl 1 => .reg exitSem
  | .inr (.inl s) => .dma (sendSem s)
  | .inr (.inr s) => .dma (recvSem s)

theorem csem_injective : Function.Injective csem := by
  have h : ∀ k k' : Kix, csem k = csem k' → k = k' := by decide +kernel
  exact fun k k' => h k k'
theorem copy_ne_csem (j : Fin 3) (k : Kix) : csem k ≠ .dma (copySem j) := by
  have h : ∀ (j : Fin 3) (k : Kix), csem k ≠ .dma (copySem j) := by decide +kernel
  exact h j k

open Classical in
/-- Which of them a semaphore is. -/
def kindOf (sm : SemLoc sig) : Option Kix := if h : ∃ k, csem k = sm then some h.choose else none
theorem kindOf_csem (k : Kix) : kindOf (csem k) = some k := by
  unfold kindOf
  rw [dif_pos ⟨k, rfl⟩]
  exact congrArg some (csem_injective (Exists.choose_spec (⟨k, rfl⟩ : ∃ k', csem k' = csem k)))
theorem kindOf_other {sm : SemLoc sig} (h : ∀ k, csem k ≠ sm) : kindOf sm = none := dif_neg fun ⟨k, hk⟩ => h k hk

abbrev kcell (ck : Dev nD × Kix) : GSem nD τ sig := ((ck.1 : Thread nD τ), csem ck.2)
abbrev barCell (c : Dev nD) : GSem nD τ sig := kcell (c, .inl 0)
abbrev exitCell (c : Dev nD) : GSem nD τ sig := kcell (c, .inl 1)
abbrev sendCell (c : Dev nD) (s : Fin 15) : GSem nD τ sig := kcell (c, .inr (.inl s))
abbrev recvCell (c : Dev nD) (s : Fin 15) : GSem nD τ sig := kcell (c, .inr (.inr s))

theorem kcell_injective : Function.Injective kcell := by
  rintro ⟨c, k⟩ ⟨c', k'⟩ h
  have h1 : c = c' := by have := congrArg (fun g : GSem nD τ sig => g.1.1) h; exact this
  have h2 : k = k' := csem_injective (congrArg Prod.snd h)
  rw [h1, h2]

/-- A transfer's credit: a slot's. -/
def N : ℕ := (rSlot 0).view.dmaCredit
theorem N_pos : 0 < N := View.dmaCredit_pos _ (by decide)
theorem recvCredit (s : Fin 15) : (rSlot s).view.dmaCredit = N := rfl
theorem sendCredit (s : Fin 15) : (sSlot s).view.dmaCredit = N := rfl
/-- A fetch's credit. -/
def NW : ℕ := (wSlot 0).view.dmaCredit
theorem NW_pos : 0 < NW := View.dmaCredit_pos _ (by decide)
theorem wCredit (k : Fin 3) : (wSlot k).view.dmaCredit = NW := rfl

/-! ## Contents -/

theorem casts_w : S4096x512.ShapeCasts S1x4096x512 := by decide
theorem casts_b : S256x512.ShapeCasts S1x256x512 := by decide

section Contents

variable (m : (ℓ : Loc nD τ sig) → Buf (Elt F) ℓ)

/-- Device `c`'s rows of `x`, staged. -/
def xstg (c : Dev nD) : (cc0_stg0_0 : Ref sig .tc).ty.Contents (Elt F) :=
  (win0_0.blk (0 : Fin 1)).view.read (Elt F) (m ((c : Thread nD τ).loc main_arg0))
/-- The same in bf16. -/
def xb (c : Dev nD) : Vec F S256x4096 .bf16 := k0_pay1 (xstg m c)
/-- Device `e`'s columns of device `c`'s copy of `w_mat`. -/
def cols (c e : Dev nD) : Vec F S4096x512 .f32 :=
  (wM.slice (wCol e) (fun _ => rfl)).view.read (Elt F) (m ((c : Thread nD τ).loc main_arg1))
/-- A block of rows of `x` times a block of columns of `w_mat`, through gelu. -/
def blk (x : Vec F S256x4096 .bf16) (w : Vec F S4096x512 .f32) : FVec F S256x512 .f32 :=
  blockOf x (shapeCast S1x4096x512 w casts_w)
/-- What device `d` sends at step `s`. -/
def sentX (d : Dev nD) (s : Fin 15) : Vec F S256x512 .bf16 := truncf .bf16 (blk (xb m d) (cols m d (peer s d))) bitsLt_bf16_f32
/-- The rows of device `d` in the result of device `c`. -/
def rowsOf (c d : Dev nD) : Vec F S256x512 .f32 :=
  if d = c then blk (xb m c) (cols m c c)
  else extf .f32 (truncf .bf16 (blk (xb m d) (cols m d c)) bitsLt_bf16_f32) bitsLt_bf16_f32

/-- What the store of step `s` leaves in the slot is what the step sends. -/
theorem sentOf_eq (x : Vec F S256x4096 .bf16) (w : Vec F S4096x512 .f32) :
    shapeCast S256x512 (sentOf x (shapeCast S1x4096x512 w casts_w)) shapeCasts_S1x256x512_S256x512
      = truncf .bf16 (blk x w) bitsLt_bf16_f32 := by
  show shapeCast S256x512 (shapeCast S1x256x512 (truncf .bf16 (blk x w) bitsLt_bf16_f32) shapeCasts_S256x512_S1x256x512)
    shapeCasts_S1x256x512_S256x512 = _
  rw [shapeCast_shapeCast]
/-- What is read off a received slot. -/
theorem gotOf_eq (r : Vec F S256x512 .bf16) :
    gotOf (shapeCast S1x256x512 r casts_b) = extf .f32 r bitsLt_bf16_f32 := by
  show extf .f32 (shapeCast S256x512 (shapeCast S1x256x512 r casts_b) shapeCasts_S1x256x512_S256x512) bitsLt_bf16_f32 = _
  rw [shapeCast_shapeCast]
theorem rowsOf_self (c : Dev nD) : rowsOf m c c = blk (xb m c) (cols m c c) := if_pos rfl
theorem rowsOf_src (c : Dev nD) (s : Fin 15) : rowsOf m c (src s c) = extf .f32 (sentX m (src s c) s) bitsLt_bf16_f32 := by
  unfold rowsOf sentX; rw [if_neg (src_ne s c), peer_src]

end Contents

end Cert.AllToAllGelu

end
-- ==== Proof.Sched.lean ====
/-
# The rounds of the cells, what a device owes, and the order of the waits

Every cell goes one round.  A device's entry cell is paid a unit by each other device, which hands over the slot this
device will send into; its exit cell a unit by each other device, which hands over nothing; a send cell and a receive cell
a slot's credit, which hand over the slot.
-/
module

public import proofs.«01_k».proof.Proof.Cells

@[expose] public section

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The schedule -/

/-- Device `c`'s slot `s` of the send buffer, at some contents. -/
def sAny (c : Dev nD) (s : Fin 15) : sProp 𝕄 :=
  iprop(∃ X : S256x512.Idx → Elt F .bf16, owns (c : Thread nD τ) (sSlot s) fullShare X)
/-- Device `c`'s slot `s` of the receive buffer, at some contents. -/
def rAny (c : Dev nD) (s : Fin 15) : sProp 𝕄 :=
  iprop(∃ X : S256x512.Idx → Elt F .bf16, owns (c : Thread nD τ) (rSlot s) fullShare X)
/-- The same holding what was sent into it. -/
def rGot (c : Dev nD) (s : Fin 15) : sProp 𝕄 := owns (c : Thread nD τ) (rSlot s) fullShare (sentX m (src s c) s)

instance sAny_storable (c : Dev nD) (s : Fin 15) : BI.Storable (upEmb : UEmb _ 𝕄) (sAny (F := F) c s) := by unfold sAny; infer_instance
instance rAny_storable (c : Dev nD) (s : Fin 15) : BI.Storable (upEmb : UEmb _ 𝕄) (rAny (F := F) c s) := by unfold rAny; infer_instance
instance rGot_storable (c : Dev nD) (s : Fin 15) : BI.Storable (upEmb : UEmb _ 𝕄) (rGot (F := F) m c s) := by unfold rGot; infer_instance

/-- The duties of a cell. -/
def dutiesOf : Option Kix → Finset (Fin 15)
  | some (.inl _) => Finset.univ
  | some (.inr _) => {0}
  | none => ∅
/-- The units of a duty. -/
def amountOf : Option Kix → ℕ
  | some (.inl _) => 1
  | _ => N
/-- What a duty hands over, at a cell of device `c`. -/
def payOf (c : Dev nD) : Option Kix → Fin 15 → sProp 𝕄
  | some (.inl 0), s => rAny (peer s c) s
  | some (.inr (.inl s)), _ => sAny c s
  | some (.inr (.inr s)), _ => rGot m c s
  | _, _ => iprop(emp)

open Classical in
def Rd : Rounds.Schedule (GSem nD τ sig) (Fin 15) 𝕄 where
  duties g r := if r = 0 ∧ g.1.2 = .tc then dutiesOf (kindOf g.2) else ∅
  unitless _ := False
  amount g _ _ := amountOf (kindOf g.2)
  payload g _ d := payOf m g.1.1 (kindOf g.2) d
  amount_pos g _ _ _ := by
    unfold amountOf
    split
    · exact Nat.one_pos
    · exact N_pos

instance payOf_storable (c : Dev nD) (k : Option Kix) (d : Fin 15) : BI.Storable (upEmb : UEmb _ 𝕄) (payOf (F := F) m c k d) := by
  unfold payOf; split <;> infer_instance
instance Rd_payload_storable (g : GSem nD τ sig) (r : ℕ) (d : Fin 15) :
    BI.Storable (upEmb : UEmb _ 𝕄) ((Rd (F := F) m).payload g r d) :=
  payOf_storable m g.1.1 (kindOf g.2) d

section Lemmas

variable (c : Dev nD) (k : Kix)

theorem duties_eq : (Rd (F := F) m).duties (kcell (c, k)) 0 = dutiesOf (some k) := by
  dsimp only [Rd]; rw [if_pos ⟨rfl, rfl⟩, kindOf_csem]
theorem duties_later (g : GSem nD τ sig) : ∀ r, 1 ≤ r → (Rd (F := F) m).duties g r = ∅ :=
  fun r hr => by dsimp only [Rd]; exact if_neg fun h => by omega
theorem amount_eq (d : Fin 15) : (Rd (F := F) m).amount (kcell (c, k)) 0 d = amountOf (some k) := by
  dsimp only [Rd]; rw [kindOf_csem]
theorem payload_eq (d : Fin 15) : (Rd (F := F) m).payload (kcell (c, k)) 0 d = payOf m c (some k) d := by
  dsimp only [Rd]; rw [kindOf_csem]

theorem mem_hand (i : Fin 2) (d : Fin 15) : d ∈ (Rd (F := F) m).duties (kcell (c, .inl i)) 0 := by
  rw [duties_eq]; exact Finset.mem_univ d
theorem mem_xfer (k : Fin 15 ⊕ Fin 15) : (0 : Fin 15) ∈ (Rd (F := F) m).duties (kcell (c, .inr k)) 0 := by
  rw [duties_eq]; exact Finset.mem_singleton_self _
theorem amount_hand (i : Fin 2) (d : Fin 15) : (Rd (F := F) m).amount (kcell (c, .inl i)) 0 d = 1 := amount_eq m c _ d
theorem amount_xfer (k : Fin 15 ⊕ Fin 15) (d : Fin 15) : (Rd (F := F) m).amount (kcell (c, .inr k)) 0 d = N := amount_eq m c _ d

theorem expect_hand (i : Fin 2) : (Rd (F := F) m).expect (kcell (c, .inl i)) 0 = 15 := by
  unfold Schedule.expect Schedule.amountOf
  rw [Finset.sum_congr rfl fun d _ => amount_hand m c i d, duties_eq, Finset.sum_const]; rfl
theorem expect_xfer (k : Fin 15 ⊕ Fin 15) : (Rd (F := F) m).expect (kcell (c, .inr k)) 0 = N := by
  unfold Schedule.expect Schedule.amountOf
  rw [Finset.sum_congr rfl fun d _ => amount_xfer m c k d, duties_eq]; exact Finset.sum_singleton _ _

theorem rest_hand (i : Fin 2) :
    bigSep ((Rd (F := F) m).duties (kcell (c, .inl i)) 0 \ ∅) (fun d => (Rd (F := F) m).payload (kcell (c, .inl i)) 0 d)
      = bigSep Finset.univ fun d => payOf m c (some (.inl i)) d := by
  rw [Finset.sdiff_empty, duties_eq]
  exact bigSep_congr fun d _ => payload_eq m c _ d
theorem rest_xfer (k : Fin 15 ⊕ Fin 15) :
    bigSep ((Rd (F := F) m).duties (kcell (c, .inr k)) 0 \ ∅) (fun d => (Rd (F := F) m).payload (kcell (c, .inr k)) 0 d)
      = payOf m c (some (.inr k)) 0 := by
  rw [Finset.sdiff_empty, duties_eq]
  exact bigSep_singleton.trans (payload_eq m c _ 0)

end Lemmas

/-! ## Sums and separating conjunctions over what is left of a list of fifteen -/

/-- The members from `n` on. -/
def restOf {k : ℕ} (n : ℕ) : Finset (Fin k) := Finset.univ.filter fun i => n ≤ i.val
/-- The members before `n`. -/
def firstOf {k : ℕ} (n : ℕ) : Finset (Fin k) := Finset.univ.filter fun i => i.val < n

theorem restOf_zero {k : ℕ} : (restOf 0 : Finset (Fin k)) = Finset.univ := Finset.filter_true_of_mem fun i _ => Nat.zero_le _
theorem restOf_all {k : ℕ} : (restOf k : Finset (Fin k)) = ∅ := Finset.filter_false_of_mem fun i _ => by omega
theorem firstOf_zero {k : ℕ} : (firstOf 0 : Finset (Fin k)) = ∅ := Finset.filter_false_of_mem fun i _ => by omega
theorem firstOf_all {k : ℕ} : (firstOf k : Finset (Fin k)) = Finset.univ := Finset.filter_true_of_mem fun i _ => i.isLt
theorem mem_restOf {k n : ℕ} {i : Fin k} : i ∈ (restOf n : Finset (Fin k)) ↔ n ≤ i.val := by simp [restOf]
theorem mem_firstOf {k n : ℕ} {i : Fin k} : i ∈ (firstOf n : Finset (Fin k)) ↔ i.val < n := by simp [firstOf]
theorem not_mem_restOf {k : ℕ} (i : Fin k) : i ∉ (restOf (i.val + 1) : Finset (Fin k)) := fun h => by have := mem_restOf.mp h; omega
theorem not_mem_firstOf {k : ℕ} (i : Fin k) : i ∉ (firstOf i.val : Finset (Fin k)) := fun h => by have := mem_firstOf.mp h; omega
theorem restOf_val {k : ℕ} (i : Fin k) : (restOf i.val : Finset (Fin k)) = insert i (restOf (i.val + 1)) := by
  ext j; simp only [mem_restOf, Finset.mem_insert, Fin.ext_iff]; omega
theorem firstOf_succ {k : ℕ} (i : Fin k) : (firstOf (i.val + 1) : Finset (Fin k)) = insert i (firstOf i.val) := by
  ext j; simp only [mem_firstOf, Finset.mem_insert, Fin.ext_iff]; omega

theorem rest_peel {k : ℕ} (Φ : Fin k → sProp 𝕄) (i : Fin k) :
    bigSep (restOf i.val) Φ = iprop(Φ i ∗ bigSep (restOf (i.val + 1)) Φ) := by
  rw [restOf_val, bigSep_insert (not_mem_restOf i)]; rfl
theorem first_push {k : ℕ} (Φ : Fin k → sProp 𝕄) (i : Fin k) :
    bigSep (firstOf (i.val + 1)) Φ = iprop(Φ i ∗ bigSep (firstOf i.val) Φ) := by
  rw [firstOf_succ, bigSep_insert (not_mem_firstOf i)]; rfl

/-! ## What each device owes -/

abbrev Tallies : Type := CellTallies nD τ sig Unit

def barOwe (c : Dev nD) (i : Fin 15) : Tallies := tallyAt (barCell (src (stepOf i) c)) () 1
def recvOwe (c : Dev nD) (s : Fin 15) : Tallies := tallyAt (recvCell (peer s c) s) () N
def exitOwe (c : Dev nD) (i : Fin 15) : Tallies := tallyAt (exitCell (src (stepOf i) c)) () 1
/-- What is still owed with the first `n` paid. -/
def owedFrom (f : Fin 15 → Tallies) (n : ℕ) : Tallies := ∑ i ∈ restOf n, f i

theorem owedFrom_val (f : Fin 15 → Tallies) (i : Fin 15) : owedFrom f i.val = owedFrom f (i.val + 1) + f i := by
  unfold owedFrom; rw [restOf_val, Finset.sum_insert (not_mem_restOf i), add_comm]
theorem owedFrom_all (f : Fin 15 → Tallies) : owedFrom f 15 = 0 := by unfold owedFrom; rw [restOf_all, Finset.sum_empty]
theorem owedFrom_zero (f : Fin 15 → Tallies) : owedFrom f 0 = ∑ i, f i := by unfold owedFrom; rw [restOf_zero]

/-- What a device owes after its entry handshake. -/
def O₁ (c : Dev nD) : Tallies := owedFrom (recvOwe c) 0 + owedFrom (exitOwe c) 0
def O₀ (c : Dev nD) : Tallies := O₁ c + owedFrom (barOwe c) 0

/-! ## The order of the waits -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvK : Option Kix → ℕ
  | some (.inl 0) => 1
  | some (.inl 1) => 3
  | some (.inr (.inr _)) => 2
  | _ => 0
/-- The entry cells at 1, the receive cells at 2, the exit cells at 3, everything else at 0. -/
def lv (g : GSem nD τ sig) (_ : Unit) : ℕ := lvK (kindOf g.2)

theorem lv_kcell (c : Dev nD) (k : Kix) : lv (kcell (c, k)) () = lvK (some k) := by unfold lv; rw [kindOf_csem]
theorem lv_copy (c : Dev nD) (j : Fin 3) : lv ((c : Thread nD τ), .dma (copySem j)) () = 0 := by
  unfold lv; rw [kindOf_other (copy_ne_csem j)]; rfl

/-- Every cell owed to lies above level `n`. -/
def Above (n : ℕ) (O : Tallies) : Prop := ∀ (g : GSem nD τ sig) (u : Unit), 0 < O g u → g.1.2 = .tc ∧ n < lv g u

theorem Above.add {n : ℕ} {A B : Tallies} (hA : Above n A) (hB : Above n B) : Above n (A + B) := fun g u h => by
  rw [Pi.add_apply, Finsupp.add_apply] at h
  rcases Nat.eq_zero_or_pos (A g u) with h0 | h0
  · exact hB g u (by omega)
  · exact hA g u h0
theorem Above.zero {n : ℕ} : Above n 0 := fun g u h => absurd h (Nat.lt_irrefl 0)
theorem Above.tally {n : ℕ} {k : Kix} (c : Dev nD) (a : ℕ) (h : n < lvK (some k)) : Above n (tallyAt (kcell (c, k)) () a) := fun g u hg => by
  rw [tallyAt_apply] at hg
  by_cases hq : g = kcell (c, k) ∧ u = ()
  · rw [hq.1]; exact ⟨rfl, by rw [lv_kcell]; exact h⟩
  · rw [if_neg hq] at hg; exact absurd hg (Nat.lt_irrefl 0)
theorem Above.from {n : ℕ} {f : Fin 15 → Tallies} (hf : ∀ i, Above n (f i)) (j : ℕ) : Above n (owedFrom f j) := by
  unfold owedFrom
  refine Finset.sum_induction f (Above n) (fun _ _ => Above.add) Above.zero fun i _ => hf i

theorem above_bar (c : Dev nD) (n : ℕ) : Above 0 (owedFrom (barOwe c) n) := Above.from (fun i => Above.tally _ _ (by decide)) n
theorem above_recv (c : Dev nD) (n : ℕ) : Above 1 (owedFrom (recvOwe c) n) := Above.from (fun i => Above.tally _ _ (by decide : 1 < 2)) n
theorem above_exit (c : Dev nD) (n : ℕ) : Above 2 (owedFrom (exitOwe c) n) := Above.from (fun i => Above.tally _ _ (by decide)) n
theorem Above.mono {n n' : ℕ} {O : Tallies} (h : Above n O) (hn : n' ≤ n) : Above n' O := fun g u hg => ⟨(h g u hg).1, lt_of_le_of_lt hn (h g u hg).2⟩
theorem above_O₀ (c : Dev nD) : Above 0 (O₀ c) :=
  (((above_recv c 0).mono (by decide)).add ((above_exit c 0).mono (by decide))).add (above_bar c 0)

/-- A device may wait at a cell below everything it owes. -/
theorem mayWait (c : Dev nD) (sm : SemLoc sig) {n : ℕ} {O : Tallies} (hO : Above n O) (hn : lv ((c : Thread nD τ), sm) () ≤ n) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

theorem mayWait_kcell (c : Dev nD) (k : Kix) {n : ℕ} {O : Tallies} (hO : Above n O) (hn : lvK (some k) ≤ n) :
    (levAts L lv : sProp 𝕄) ⊢ MayWait (c : Thread nD τ) (csem k) () O :=
  mayWait c _ hO (by rw [show lv ((c : Thread nD τ), csem k) () = _ from lv_kcell c k]; exact hn)
theorem mayWait_copy (c : Dev nD) (j : Fin 3) {O : Tallies} (hO : Above 0 O) :
    (levAts L lv : sProp 𝕄) ⊢ MayWait (c : Thread nD τ) (.dma (copySem j)) () O :=
  mayWait c _ hO (by rw [lv_copy])

end Cert.AllToAllGelu

end
-- ==== Proof.Loops.lean ====
/-
# Running a list of steps, and what every step may use
-/
module

public import proofs.«01_k».proof.Proof.Sched

@[expose] public section

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program run on core `c`. -/
abbrev run (c : Dev nD) (p : Code F) (Q : PUnit → sProp 𝕄) : sProp 𝕄 :=
  wp frame (wpE (defs₀ (F := F)) 𝒱₀ (c : Thread nD τ) none) Set.univ p Q

/-- One step and then the rest. -/
theorem run_step (c : Dev nD) {p : Code F} {k : PUnit → Code F} {Q : PUnit → sProp 𝕄} {A B : sProp 𝕄}
    (h : A ⊢ run c p fun _ => B) : iprop(A ∗ (B -∗ run c (k ⟨⟩) Q)) ⊢ run c (p >>= k) Q := by
  unfold run
  rw [wp_bind]
  iintro ⟨HA, Hk⟩
  iapply (wp_wand_r _ _ _ (Q := fun _ => B))
  isplitl [HA]
  · iapply h; iexact HA
  · iintro %a HB
    cases a
    iapply Hk; iexact HB

/-- The list runs through the members from `j` on, in order. -/
def Consec {n : ℕ} : ℕ → List (Fin n) → Prop
  | j, [] => j = n
  | j, i :: l => i.val = j ∧ Consec (j + 1) l

/-- A list of steps keeps what each of them takes one further. -/
theorem run_all {n : ℕ} (c : Dev nD) (f : Fin n → Code F) (R : sProp 𝕄) [BI.Persistent R] (Inv : ℕ → sProp 𝕄)
    (h : ∀ i : Fin n, iprop(R ∗ Inv i.val) ⊢ run c (f i) fun _ => Inv (i.val + 1)) {k : Code F} {Q : PUnit → sProp 𝕄} :
    ∀ (l : List (Fin n)) (j : ℕ), Consec j l →
      iprop(R ∗ Inv j ∗ (Inv n -∗ run c k Q)) ⊢ run c (runAll f l k) Q
  | [], j, hj => by
    obtain rfl : j = n := hj
    unfold runAll
    iintro ⟨-, HI, Hk⟩
    iapply Hk; iexact HI
  | i :: l, j, hj => by
    obtain ⟨hi, hl⟩ := hj
    subst hi
    unfold runAll
    iintro ⟨#HR, HI, Hk⟩
    iapply (run_step c (A := iprop(R ∗ Inv i.val)) (B := Inv (i.val + 1)) (h i))
    isplitl [HI]
    · isplitr; · iexact HR
      iexact HI
    · iintro HI
      iapply (run_all c f R Inv h l (i.val + 1) hl)
      isplitr; · iexact HR
      isplitl [HI]; · iexact HI
      iexact Hk

theorem consec_fifteen : Consec 0 fifteen := ⟨rfl, rfl, rfl, rfl, rfl, rfl, rfl, rfl, rfl, rfl, rfl, rfl, rfl, rfl, rfl, rfl⟩
theorem consec_fourteen : Consec 0 fourteen := ⟨rfl, rfl, rfl, rfl, rfl, rfl, rfl, rfl, rfl, rfl, rfl, rfl, rfl, rfl, rfl⟩

/-! ## What every step may use -/

variable (m : (ℓ : Loc nD τ sig) → Buf (Elt F) ℓ) (K : Dev nD × Kix → ℕ)

/-- Every cell's invariant, and that its only round is open. -/
def records : sProp 𝕄 :=
  iprop((bigSep Finset.univ fun ck : Dev nD × Kix => cellInv ER (Rd m) (K ck) (kcell ck))
    ∗ bigSep Finset.univ fun ck : Dev nD × Kix => reached ER (kcell ck) 0)
def know : sProp 𝕄 := iprop(records m K ∗ levAts L lv)

instance records_persistent : BI.Persistent (records (F := F) m K) := by unfold records; infer_instance
instance know_persistent : BI.Persistent (know (F := F) m K) := by unfold know; infer_instance

theorem each_inv (ck : Dev nD × Kix) :
    (bigSep Finset.univ fun ck : Dev nD × Kix => (cellInv ER (Rd m) (K ck) (kcell ck) : sProp 𝕄)) ⊢ cellInv ER (Rd m) (K ck) (kcell ck) :=
  bigSep_elim (Finset.mem_univ ck)
theorem each_reached (ck : Dev nD × Kix) :
    (bigSep Finset.univ fun ck : Dev nD × Kix => (reached ER (kcell ck) 0 : sProp 𝕄)) ⊢ reached ER (kcell ck) 0 :=
  bigSep_elim (Finset.mem_univ ck)
theorem know_inv (ck : Dev nD × Kix) : know (F := F) m K ⊢ cellInv ER (Rd m) (K ck) (kcell ck) := by
  unfold know records
  iintro ⟨⟨H, -⟩, -⟩
  iapply (each_inv m K ck); iexact H
theorem know_reached (ck : Dev nD × Kix) : know (F := F) m K ⊢ reached ER (kcell ck) 0 := by
  unfold know records
  iintro ⟨⟨-, H⟩, -⟩
  iapply (each_reached ck); iexact H
theorem know_lev : know (F := F) m K ⊢ (levAts L lv : sProp 𝕄) := by
  unfold know
  iintro ⟨-, H⟩
  iexact H

/-- Core `c` owes `O`, whatever waits it has done. -/
def ow (c : Dev nD) (O : Tallies) : sProp 𝕄 := iprop(∃ W, owes (c : Thread nD τ) O W)

end Cert.AllToAllGelu

end
-- ==== Proof.Hand.lean ====
/-
# The two handshakes, step by step
-/
module

public import proofs.«01_k».proof.Proof.Loops

@[expose] public section

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kix → ℕ) (c : Dev nD)

/-- A unit raised at the handshake cell `i` of device `e`, paying its duty `d`. -/
theorem run_signal (i : Fin 2) (sem : Sem sig) (hsem : csem (.inl i) = .reg sem) (n e : Dev nD) (hn : n = e) (d : Fin 15) (O : Tallies) :
    iprop(know m K ∗ dutyTok ER (kcell (e, .inl i)) 0 d ∗ payOf m e (some (.inl i)) d
        ∗ ow (F := F) c (O + tallyAt (kcell (e, .inl i)) () 1))
      ⊢ run c (semSignalWord n sem 1#32) fun _ => ow c O := by
  subst hn
  have hcell : kcell (n, .inl i) = ((n : Thread nD τ), SemLoc.reg sem) := by
    show ((n : Thread nD τ), csem (.inl i)) = _; rw [hsem]
  have hmem := mem_hand (F := F) m n i d
  have ham := amount_hand (F := F) m n i d
  have hpay := payload_eq (F := F) m n (.inl i) d
  rw [← hpay]
  have hI := know_inv (F := F) m K (n, .inl i)
  have hR := know_reached (F := F) m K (n, .inl i)
  rw [hcell] at hmem ham hI hR
  rw [hcell]
  unfold run ow
  simp only [semSignalWord]
  iintro ⟨#HK, Ht, Hp, ⟨%W, HO⟩⟩
  iapply (Rounds.wp_signal 𝒱₀ ER (Rd m) (c : Thread nD τ) none (dst := (n : Thread nD τ)) (κ := K (n, .inl i))
      (d := d) hmem (ham.trans (by decide)) () O rfl)
    $$ [HO Ht Hp]
  · isplitr; · iapply hI; iexact HK
    isplitl [HO]; · iexact HO
    isplitl [Ht]; · iexact Ht
    isplitl [Hp]; · iexact Hp
    iapply hR; iexact HK
  iintro HO
  rw [wp_ret]; imodintro
  iexists W; iexact HO

set_option maxRecDepth 20000 in
/-- The wait for all fifteen units of a handshake. -/
theorem run_hand (i : Fin 2) (sem : Sem sig) (hsem : csem (.inl i) = .reg sem) (n : ℕ) (O : Tallies) (hO : Above n O)
    (hn : lvK (some (.inl i)) ≤ n) :
    iprop(know m K ∗ cred (tallyAt (kcell (c, .inl i)) () 15) ∗ atPos ER (kcell (c, .inl i)) 0 ∅ 0 ∗ ow (F := F) c O)
      ⊢ run c (semWaitWord sem 15#32) fun _ =>
          iprop((bigSep Finset.univ fun d => payOf m c (some (.inl i)) d) ∗ semVal (kcell (c, .inl i)) 0 ∗ ow (F := F) c O) := by
  have hcell : kcell (c, .inl i) = ((c : Thread nD τ), SemLoc.reg sem) := by
    show ((c : Thread nD τ), csem (.inl i)) = _; rw [hsem]
  have hI := know_inv (F := F) m K (c, .inl i)
  have hexp := expect_hand (F := F) m c i
  have hrest := rest_hand (F := F) m c i
  have hmw := mayWait_kcell (F := F) c (.inl i) hO hn
  rw [hcell] at hI hexp hrest
  rw [hsem] at hmw
  rw [hcell]
  unfold run ow
  simp only [semWaitWord]
  iintro ⟨#HK, Hc, Hat, ⟨%W, HO⟩⟩
  iapply (Rounds.wp_wait_rest_token 𝒱₀ ER (Rd m) (c : Thread nD τ) none (κ := K (c, .inl i))
      (wpE_semWait_eq 𝒱₀ (c : Thread nD τ) none Set.univ) (Set.mem_univ _) () (O := O) (W := W) (R := 0) (m := 0) (T := ∅)
      (by rw [hexp]; decide)) $$ [Hc HO Hat]
  · isplitr; · iapply hI; iexact HK
    isplitl [Hc]; · iexact Hc
    isplitl [HO]; · iexact HO
    isplitr; · iapply ((know_lev (F := F) m K).trans hmw); iexact HK
    iexact Hat
  iintro ⟨HO, Hat, -, Hpay⟩
  imod (Rounds.cell_close ER (Rd m) (Set.mem_univ (K (c, .inl i))) (fun h => h) (R := 0 + 1) (duties_later m ((c : Thread nD τ), SemLoc.reg sem))) $$ [Hat] with Hz
  · isplitr; · iapply hI; iexact HK
    iexact Hat
  rw [wp_ret]; imodintro
  isplitl [Hpay]; · rw [← hrest]; iexact Hpay
  isplitl [Hz]; · iexact Hz
  iexists _; iexact HO

/-! ## The entry handshake -/

/-- What device `c` spends on its `i`-th entry signal. -/
def barIn (i : Fin 15) : sProp 𝕄 := iprop(dutyTok ER (barCell (src (stepOf i) c)) 0 (stepOf i) ∗ rAny c (stepOf i))

def barInv (n : ℕ) : sProp 𝕄 := iprop(bigSep (restOf n) (barIn c) ∗ ow (F := F) c (O₁ c + owedFrom (barOwe c) n))

theorem run_barStep (i : Fin 15) : iprop(know m K ∗ barInv (F := F) c i.val) ⊢ run c (barStep c i) fun _ => barInv c (i.val + 1) := by
  unfold barInv
  rw [rest_peel, owedFrom_val, ← add_assoc]
  iintro ⟨#HK, ⟨Hi, Hrest⟩, HO⟩
  iapply (wp_wand_r _ _ _ (Q := fun _ => ow (F := F) c (O₁ c + owedFrom (barOwe c) (i.val + 1))))
  isplitl [Hi HO]
  · unfold barIn
    icases Hi with ⟨Ht, Hr⟩
    iapply (run_signal m K c 0 barSem rfl (barDev c i) (src (stepOf i) c) (barDev_eq c i) (stepOf i) _)
    isplitr; · iexact HK
    isplitl [Ht]; · iexact Ht
    isplitl [Hr]
    · rw [show payOf m (src (stepOf i) c) (some (.inl 0)) (stepOf i) = rAny (peer (stepOf i) (src (stepOf i) c)) (stepOf i) from rfl, peer_src]
      iexact Hr
    iexact HO
  · iintro %a HO
    isplitl [Hrest]; · iexact Hrest
    iexact HO

/-! ## The exit handshake -/

def exitIn (i : Fin 15) : sProp 𝕄 := dutyTok ER (exitCell (src (stepOf i) c)) 0 (stepOf i)

def exitInv (n : ℕ) : sProp 𝕄 := iprop(bigSep (restOf n) (exitIn c) ∗ ow (F := F) c (owedFrom (exitOwe c) n))

theorem run_exitStep (i : Fin 15) : iprop(know m K ∗ exitInv (F := F) c i.val) ⊢ run c (exitStep c i) fun _ => exitInv c (i.val + 1) := by
  unfold exitInv
  rw [rest_peel, owedFrom_val]
  iintro ⟨#HK, ⟨Hi, Hrest⟩, HO⟩
  iapply (wp_wand_r _ _ _ (Q := fun _ => ow (F := F) c (owedFrom (exitOwe c) (i.val + 1))))
  isplitl [Hi HO]
  · unfold exitIn
    iapply (run_signal m K c 1 exitSem rfl (exitDev c i) (src (stepOf i) c) (exitDev_eq c i) (stepOf i) _)
    isplitr; · iexact HK
    isplitl [Hi]; · iexact Hi
    isplitr
    · rw [show payOf m (src (stepOf i) c) (some (.inl 1)) (stepOf i) = iprop(emp) from rfl]
      iempintro
    iexact HO
  · iintro %a HO
    isplitl [Hrest]; · iexact Hrest
    iexact HO

end Cert.AllToAllGelu

end
-- ==== Proof.Fetch.lean ====
/-
# Fetching a block of columns of `w_mat`

A fetch is a local transfer into one of the three slots; waiting for it gives the slot holding the block, the block's place
in `w_mat`, and the transfer's semaphore at zero again.
-/
module

public import proofs.«01_k».proof.Proof.Hand

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- Device `e`'s columns of `w_mat`. -/
def wColM (e : Dev nD) : Memref sig .tc .hbm S4096x512 .f32 := wM.slice (wCol e) (fun _ => rfl)

theorem slice_unit_congr {o o' : Fin 2 → ℕ} (h : o = o') (hi hi') :
    (wM.slice (Rect.unit (s := S4096x8192) o S4096x512.size hi) (fun _ => rfl) : Memref sig .tc .hbm S4096x512 .f32)
      = wM.slice (Rect.unit (s := S4096x8192) o' S4096x512.size hi') (fun _ => rfl) := by subst h; rfl
theorem wSrc_eq (c : Dev nD) (t : Fin 16) : wSrc c t = wColM (colOf t c) := slice_unit_congr (off1_eq c t) _ _

variable (m : (ℓ : Loc nD τ sig) → Buf (Elt F) ℓ) (K : Dev nD × Kix → ℕ) (c : Dev nD)

theorem wSrc_read (t : Fin 16) :
    (wSrc c t).view.read (Elt F) (m ((c : Thread nD τ).loc main_arg1)) = cols m c (colOf t c) := by
  have h : ∀ M : Memref sig .tc .hbm S4096x512 .f32, M = wColM (colOf t c) → ∀ f : M.view.ty.Contents (Elt F),
      HEq f (m ((c : Thread nD τ).loc main_arg1)) → M.view.read (Elt F) f = cols m c (colOf t c) := by
    intro M hM f hf; subst hM; cases hf; rfl
  exact h _ (wSrc_eq c t) _ HEq.rfl

/-- The place in `w_mat` step `t` fetches from. -/
def wPts (t : Fin 16) : sProp 𝕄 :=
  (wSrc c t).view.loc (c : Thread nD τ) ↦[(wSrc c t).view.set]{fullShare} m ((c : Thread nD τ).loc main_arg1)
/-- The slot of step `t` holding the step's block. -/
def wGot (t : Fin 16) : sProp 𝕄 := owns (c : Thread nD τ) (wSlot (slotOf t)) fullShare (cols m c (colOf t c))
/-- Slot `k` with nothing under way. -/
def wFree (k : Fin 3) : sProp 𝕄 :=
  iprop((∃ X : S4096x512.Idx → Elt F .f32, owns (c : Thread nD τ) (wSlot k) fullShare X) ∗ semVal ((c : Thread nD τ), .dma (copySem k)) 0)
/-- The fetch of step `t` under way. -/
def wFly (t : Fin 16) : sProp 𝕄 :=
  Flight (EC (F := F)) (c : Thread nD τ) (.dma (copySem (slotOf t))) () NW iprop(wGot m c t ∗ wPts m c t)

theorem run_fetch (t : Fin 16) : iprop(wFree (F := F) c (slotOf t) ∗ wPts m c t) ⊢ run c (fetchStep c t) fun _ => wFly m c t := by
  unfold run wFree fetchStep
  simp only [Prog.lift]
  unfold owns
  iintro ⟨⟨⟨%X, %f, %hf, Hd⟩, Hz⟩, Hs⟩
  unfold wPts
  iapply (wp_dmaLocal (EC (F := F)) 𝒱₀ (c : Thread nD τ) none () NW (show (wSlot (slotOf t)).view.amount (.dma (copySem (slotOf t))) = NW from rfl) NW_pos (Finset.Subset.refl _)) $$ [Hd Hz Hs]
  · isplitl [Hs]; · iexact Hs
    isplitl [Hd]; · iexact Hd
    iexact Hz
  iintro Hf
  rw [wp_ret]; imodintro
  unfold wFly
  iapply (Flight_mono (EC (F := F)) (c : Thread nD τ) ?_) $$ Hf
  iintro ⟨Hd, Hs⟩
  unfold wGot wPts owns
  isplitl [Hd]
  · iexists _
    isplitr
    rotate_left
    · iexact Hd
    · ipureintro
      exact (View.read_write_univ _ _).trans (wSrc_read m c t)
  · iexact Hs

theorem run_fetchWait (t : Fin 16) (O : Tallies) (hO : Above 0 O) :
    iprop(know m K ∗ wFly m c t ∗ ow (F := F) c O)
      ⊢ run c (fetchWait c t) fun _ =>
          iprop(wGot m c t ∗ wPts m c t ∗ semVal ((c : Thread nD τ), .dma (copySem (slotOf t))) 0 ∗ ow (F := F) c O) := by
  have hmw := (know_lev (F := F) m K).trans (mayWait_copy (F := F) c (slotOf t) hO)
  unfold run ow fetchWait wFly
  simp only [Prog.lift]
  iintro ⟨#HK, Hf, ⟨%W, HO⟩⟩
  iapply (wp_waitLocalO (EC (F := F)) 𝒱₀ (c : Thread nD τ) none (srcw := wSrc c t) (dstw := wSlot (slotOf t))
      (hsrc := View.wordExact_bits rfl) (hdst := (View.wordExact_bits rfl).reshape _ _) () (N := NW) (wCredit (slotOf t))) $$ [Hf HO]
  · isplitl [Hf]; · iexact Hf
    isplitl [HO]; · iexact HO
    iapply hmw; iexact HK
  iintro ⟨⟨Hg, Hp⟩, Hz, HO⟩
  rw [wp_ret]; imodintro
  isplitl [Hg]; · iexact Hg
  isplitl [Hp]; · iexact Hp
  isplitl [Hz]; · iexact Hz
  iexists _; iexact HO

end Cert.AllToAllGelu

end
-- ==== Proof.Send.lean ====
/-
# A product computed and sent

A sending step waits for its block of columns, multiplies, stores the product in its slot of the send buffer and starts
the transfer into the same slot of the receive buffer of the block's owner.
-/
module

public import proofs.«01_k».proof.Proof.Fetch

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The slots as parts of their buffers -/

theorem wSlot_set (k : Fin 3) : (wSlot k).view.set = (wBufM.access (wRect k)).set := View.set_reshape _ _
theorem sSlot_set (s : Fin 15) : (sSlot s).view.set = (sBufM.access (bRect s)).set := View.set_reshape _ _
theorem rSlot_set (s : Fin 15) : (rSlot s).view.set = (rBufM.access (bRect s)).set := View.set_reshape _ _

theorem wSlot_read (k : Fin 3) (f : (wBufM.view).ty.Contents (Elt F)) :
    (wBufM.access (wRect k)).read (Elt F) f = shapeCast S1x4096x512 ((wSlot k).view.read (Elt F) f) casts_w := by
  show _ = shapeCast S1x4096x512 (shapeCast S4096x512 ((wBufM.access (wRect k)).read (Elt F) f) shapeCasts_S1x4096x512_S4096x512) casts_w
  rw [shapeCast_shapeCast]
theorem rSlot_read (s : Fin 15) (f : (rBufM.view).ty.Contents (Elt F)) :
    (rBufM.access (bRect s)).read (Elt F) f = shapeCast S1x256x512 ((rSlot s).view.read (Elt F) f) casts_b := by
  show _ = shapeCast S1x256x512 (shapeCast S256x512 ((rBufM.access (bRect s)).read (Elt F) f) shapeCasts_S1x256x512_S256x512) casts_b
  rw [shapeCast_shapeCast]
theorem sSlot_write (s : Fin 15) (f : (sBufM.view).ty.Contents (Elt F)) (w : Vec F S1x256x512 .bf16) :
    (sSlot s).view.read (Elt F) ((sBufM.access (bRect s)).write (Elt F) f w Finset.univ)
      = shapeCast S256x512 w shapeCasts_S1x256x512_S256x512 := by
  show shapeCast S256x512 ((sBufM.access (bRect s)).read (Elt F) ((sBufM.access (bRect s)).write (Elt F) f w Finset.univ))
    shapeCasts_S1x256x512_S256x512 = _
  rw [View.read_write_univ]

theorem hz2 : (![0, 0] : Fin 2 → Nat) = fun _ => 0 := funext fun a => by fin_cases a <;> rfl
abbrev xRect : Rect S256x4096 := Rect.unit (s := S256x4096) ![0, 0] S256x4096.size inb_S256x4096_S256x4096_0_0
theorem xM_read (f : (cc0_scratch0 : Ref sig .tc).ty.Contents (Elt F)) : xM.view.readAt (Elt F) xRect.toLoadRect f = f :=
  Memref.readAt_unit_zero (Elt F) cc0_scratch0 hz2 _ f

variable (m : (ℓ : Loc nD τ sig) → Buf (Elt F) ℓ) (K : Dev nD × Kix → ℕ) (c : Dev nD)

/-- A slot's elements, seen as part of the buffer. -/
def wPart (k : Fin 3) (f : (wBufM.view).ty.Contents (Elt F)) : sProp 𝕄 :=
  (wBufM.access (wRect k)).loc (c : Thread nD τ) ↦[(wBufM.access (wRect k)).set]{fullShare} f
def sPart (s : Fin 15) (f : (sBufM.view).ty.Contents (Elt F)) : sProp 𝕄 :=
  (sBufM.access (bRect s)).loc (c : Thread nD τ) ↦[(sBufM.access (bRect s)).set]{fullShare} f
def rPart (s : Fin 15) (f : (rBufM.view).ty.Contents (Elt F)) : sProp 𝕄 :=
  (rBufM.access (bRect s)).loc (c : Thread nD τ) ↦[(rBufM.access (bRect s)).set]{fullShare} f

theorem wPart_eq (k : Fin 3) (f : (wBufM.view).ty.Contents (Elt F)) :
    wPart c k f = ((wSlot k).view.loc (c : Thread nD τ) ↦[(wSlot k).view.set]{fullShare} f : sProp 𝕄) := by
  unfold wPart; rw [← wSlot_set]; rfl
theorem sPart_eq (s : Fin 15) (f : (sBufM.view).ty.Contents (Elt F)) :
    sPart c s f = ((sSlot s).view.loc (c : Thread nD τ) ↦[(sSlot s).view.set]{fullShare} f : sProp 𝕄) := by
  unfold sPart; rw [← sSlot_set]; rfl
theorem rPart_eq (s : Fin 15) (f : (rBufM.view).ty.Contents (Elt F)) :
    rPart c s f = ((rSlot s).view.loc (c : Thread nD τ) ↦[(rSlot s).view.set]{fullShare} f : sProp 𝕄) := by
  unfold rPart; rw [← rSlot_set]; rfl

theorem wPart_intro (k : Fin 3) (f : (wBufM.view).ty.Contents (Elt F)) :
    (((wSlot k).view.loc (c : Thread nD τ) ↦[(wSlot k).view.set]{fullShare} f) : sProp 𝕄) ⊢ wPart c k f := by
  rw [wPart_eq]
theorem sPart_intro (s : Fin 15) (f : (sBufM.view).ty.Contents (Elt F)) :
    (((sSlot s).view.loc (c : Thread nD τ) ↦[(sSlot s).view.set]{fullShare} f) : sProp 𝕄) ⊢ sPart c s f := by
  rw [sPart_eq]
theorem rPart_intro (s : Fin 15) (f : (rBufM.view).ty.Contents (Elt F)) :
    (((rSlot s).view.loc (c : Thread nD τ) ↦[(rSlot s).view.set]{fullShare} f) : sProp 𝕄) ⊢ rPart c s f := by
  rw [rPart_eq]

theorem wPart_open (k : Fin 3) (X : S4096x512.Idx → Elt F .f32) :
    (owns (c : Thread nD τ) (wSlot k) fullShare X : sProp 𝕄)
      ⊢ iprop(∃ f : (wBufM.view).ty.Contents (Elt F), ⌜(wBufM.access (wRect k)).read (Elt F) f = shapeCast S1x4096x512 X casts_w⌝ ∗ wPart c k f) := by
  unfold owns
  iintro ⟨%f, %hf, H⟩
  iexists f
  isplitr
  · ipureintro; exact (wSlot_read k f).trans (by rw [hf])
  · iapply (wPart_intro c k f); iexact H
theorem sPart_open (s : Fin 15) (X : S256x512.Idx → Elt F .bf16) :
    (owns (c : Thread nD τ) (sSlot s) fullShare X : sProp 𝕄) ⊢ iprop(∃ f : (sBufM.view).ty.Contents (Elt F), sPart c s f) := by
  unfold owns
  iintro ⟨%f, %hf, H⟩
  iexists f
  iapply (sPart_intro c s f); iexact H
theorem rPart_open (s : Fin 15) (X : S256x512.Idx → Elt F .bf16) :
    (owns (c : Thread nD τ) (rSlot s) fullShare X : sProp 𝕄)
      ⊢ iprop(∃ f : (rBufM.view).ty.Contents (Elt F), ⌜(rBufM.access (bRect s)).read (Elt F) f = shapeCast S1x256x512 X casts_b⌝ ∗ rPart c s f) := by
  unfold owns
  iintro ⟨%f, %hf, H⟩
  iexists f
  isplitr
  · ipureintro; exact (rSlot_read s f).trans (by rw [hf])
  · iapply (rPart_intro c s f); iexact H

theorem wPart_close (k : Fin 3) (f : (wBufM.view).ty.Contents (Elt F)) :
    wPart c k f ⊢ (iprop(∃ X : S4096x512.Idx → Elt F .f32, owns (c : Thread nD τ) (wSlot k) fullShare X) : sProp 𝕄) := by
  rw [wPart_eq]
  iintro H
  iexists _
  iapply (owns_intro (c : Thread nD τ) (wSlot k) fullShare f); iexact H
theorem rPart_close (s : Fin 15) (f : (rBufM.view).ty.Contents (Elt F)) :
    rPart c s f ⊢ (rAny c s : sProp 𝕄) := by
  rw [rPart_eq]; unfold rAny
  iintro H
  iexists _
  iapply (owns_intro (c : Thread nD τ) (rSlot s) fullShare f); iexact H
theorem sPart_close (s : Fin 15) (f : (sBufM.view).ty.Contents (Elt F)) (w : Vec F S1x256x512 .bf16) (X : S256x512.Idx → Elt F .bf16)
    (h : shapeCast S256x512 w shapeCasts_S1x256x512_S256x512 = X) :
    sPart c s ((sBufM.access (bRect s)).write (Elt F) f w Finset.univ) ⊢ (owns (c : Thread nD τ) (sSlot s) fullShare X : sProp 𝕄) := by
  rw [sPart_eq, ← h, ← sSlot_write s f w]
  exact owns_intro (c : Thread nD τ) (sSlot s) fullShare _

/-- The device's rows of `x` in bf16, in their buffer. -/
def xPts : sProp 𝕄 := ((c : Thread nD τ).loc cc0_scratch0) ↦{fullShare} xb m c

/-- What step `s` needs of its own: the slots at both ends and the right to pay both cells. -/
def ready (s : Fin 15) : sProp 𝕄 :=
  iprop(sAny c s ∗ rAny (peer s c) s ∗ dutyTok ER (sendCell c s) 0 0 ∗ dutyTok ER (recvCell (peer s c) s) 0 0)
/-- What it leaves: the right to wait for its slot. -/
def sent (s : Fin 15) : sProp 𝕄 := cred (tallyAt (sendCell c s) () N)

/-- The transfer of step `s`, to device `n`. -/
def xferStep (n : Dev nD) (s : Fin 15) : Code F :=
  Prog.lift (.enqueueDma (sSlot s) (.remote (Dev.tc n) (rSlot s) (.dma (sendSem s))) (.dma (recvSem s)) ((hsBufM.wordExact_slice rfl _ (bRect_words s)).reshape _ _) ((hrBufM.wordExact_slice rfl _ (bRect_words s)).reshape _ _) ⟨⟨rfl, Or.inl rfl⟩, trivial⟩)

theorem run_xfer (s : Fin 15) (n : Dev nD) (hn : n = peer s c) (A : Tallies) :
    iprop(know m K ∗ owns (c : Thread nD τ) (sSlot s) fullShare (sentX m c s) ∗ rAny (peer s c) s
        ∗ dutyTok ER (sendCell c s) 0 0 ∗ dutyTok ER (recvCell (peer s c) s) 0 0 ∗ ow (F := F) c (A + recvOwe c s))
      ⊢ run c (xferStep n s) fun _ => iprop(sent c s ∗ ow (F := F) c A) := by
  subst hn
  unfold run ow xferStep rAny owns sent
  simp only [Prog.lift]
  iintro ⟨#HK, ⟨%fs, %hfs, Hs⟩, ⟨%X, %fd, %hfd, Hd⟩, Ht1, Ht2, ⟨%W, HO⟩⟩
  iapply (Rounds.wp_send_pointsTo 𝒱₀ ER (Rd m) (c : Thread nD τ) none (κ₁ := K (c, .inr (.inl s))) (κ₂ := K (peer s c, .inr (.inr s)))
    (r₁ := 0) (r₂ := 0) (d₁ := 0) (d₂ := 0) (fs := fs) (fd := fd)
    (mem_xfer m c (.inl s)) (mem_xfer m (peer s c) (.inr s)) () () N
    (show (rSlot s).view.amount (.dma (recvSem s)) = N from rfl)
    (amount_xfer m c (.inl s) 0) (amount_xfer m (peer s c) (.inr s) 0) A rfl (W := W)
    (by
      refine BI.Entails.trans ?_ (Entails.of_eq (payload_eq m c (.inr (.inl s)) 0).symm)
      show _ ⊢ sAny c s
      unfold sAny
      iintro H
      iexists _
      iapply (owns_intro (c : Thread nD τ) (sSlot s) fullShare fs); iexact H)
    (by
      refine BI.Entails.trans ?_ (Entails.of_eq (payload_eq m (peer s c) (.inr (.inr s)) 0).symm)
      show _ ⊢ rGot m (peer s c) s
      unfold rGot
      rw [src_peer, ← hfs]
      refine (owns_intro (peer s c : Thread nD τ) (rSlot s) fullShare _).trans (Entails.of_eq ?_)
      rw [View.read_write_univ])) $$ [Hs Hd Ht1 Ht2 HO]
  · isplitr; · iapply (know_inv (F := F) m K (c, .inr (.inl s))); iexact HK
    isplitr; · iapply (know_inv (F := F) m K (peer s c, .inr (.inr s))); iexact HK
    isplitl [Hs]; · iexact Hs
    isplitl [Hd]; · iexact Hd
    isplitl [HO]; · iexact HO
    isplitl [Ht1]; · iexact Ht1
    isplitr; · iapply (know_reached (F := F) m K (c, .inr (.inl s))); iexact HK
    isplitl [Ht2]; · iexact Ht2
    iapply (know_reached (F := F) m K (peer s c, .inr (.inr s))); iexact HK
  iintro ⟨Hc, HO⟩
  rw [wp_ret]; imodintro
  isplitl [Hc]; · iexact Hc
  iexists W; iexact HO

/-- The product of step `s` computed and stored in its slot. -/
def calcStep (s : Fin 15) : Code F := do
  let x : Vec F S256x4096 .bf16 ← Prog.lift (.load xM xRect.toLoadRect (View.loadsAt_vmem h_S256x4096))
  let w : Vec F S1x4096x512 .f32 ← Prog.lift (.load wBufM (wRect (slotOf s.castSucc)).toLoadRect (View.loadsAt_vmem h_S1x4096x512))
  let _ ← (Prog.lift (.load sBufM (bRect s).toLoadRect (View.loadsAt_vmem h_S1x256x512)) : Prog (TpuEff nD τ sig (Elt F) Λ₀ .tc) (Vec F S1x256x512 .bf16))
  Prog.lift (.store sBufM (bRect s) (sentOf x w) Finset.univ (View.stores_vmem h_S1x256x512 (hsBufM.storeExact_slice rfl _ (bRect_packed s)) (fun _ => rfl)) (.inl rfl))

theorem run_calc (s : Fin 15) :
    iprop(xPts m c ∗ wGot m c s.castSucc ∗ sAny c s)
      ⊢ run c (calcStep s) fun _ =>
          iprop(xPts m c ∗ (∃ X : S4096x512.Idx → Elt F .f32, owns (c : Thread nD τ) (wSlot (slotOf s.castSucc)) fullShare X)
            ∗ owns (c : Thread nD τ) (sSlot s) fullShare (sentX m c s)) := by
  unfold run calcStep xPts wGot sAny
  simp only [Prog.lift, Prog.bind_op, Prog.bind_ret, Prog.pure_eq_ret]
  iintro ⟨Hx, Hw, ⟨%X, Hs⟩⟩
  ihave Hw := (wPart_open c _ _) $$ Hw
  icases Hw with ⟨%fw, %hfw, Hw⟩
  ihave Hs := (sPart_open c s X) $$ Hs
  icases Hs with ⟨%fs, Hs⟩
  unfold wPart sPart
  iapply (wp_load 𝒱₀ (c : Thread nD τ) none Set.univ (m := xM) (Finset.subset_univ _)) $$ Hx; iintro Hx
  rw [xM_read]
  iapply (wp_load_rect 𝒱₀ (c : Thread nD τ) none Set.univ (m := wBufM) (r := wRect (slotOf s.castSucc))
    (Finset.Subset.refl _)) $$ Hw; iintro Hw
  rw [hfw]
  iapply (wp_load_rect 𝒱₀ (c : Thread nD τ) none Set.univ (m := sBufM) (r := bRect s)
    (Finset.Subset.refl _)) $$ Hs; iintro Hs
  iapply (wp_store 𝒱₀ (c : Thread nD τ) none Set.univ (m := sBufM) (r := bRect s) (Mk := Finset.univ)
    (S := (sBufM.access (bRect s)).set) (f := fs) (Finset.Subset.refl _)) $$ Hs; iintro Hs
  rw [wp_ret]; imodintro
  isplitl [Hx]; · iexact Hx
  isplitl [Hw]
  · iapply (wPart_close c _ fw); unfold wPart; iexact Hw
  · iapply (sPart_close c s fs _ _ (sentOf_eq _ _)); unfold sPart; iexact Hs

theorem sendStep_eq (s : Fin 15) : (sendStep c s : Code F) = (fetchWait c s.castSucc >>= fun _ => calcStep s >>= fun _ => xferStep (sendDev c s) s) := by
  unfold sendStep calcStep xferStep
  simp only [bind_assoc]

/-- A whole sending step, owing `A` and its transfer. -/
theorem run_sendStep (s : Fin 15) (A : Tallies) (hA : Above 0 A) :
    iprop(know m K ∗ wFly m c s.castSucc ∗ xPts m c ∗ ready (F := F) c s ∗ ow (F := F) c (A + recvOwe c s))
      ⊢ run c (sendStep c s) fun _ =>
          iprop(wFree (F := F) c (slotOf s.castSucc) ∗ wPts m c s.castSucc ∗ xPts m c ∗ sent c s ∗ ow (F := F) c A) := by
  rw [sendStep_eq]
  have hO : Above 0 (A + recvOwe c s) := hA.add (Above.tally _ _ (by decide : 0 < 2))
  unfold ready wFree
  iintro ⟨#HK, Hf, Hx, ⟨Hs, Hr, Ht1, Ht2⟩, HO⟩
  iapply (run_step c (run_fetchWait m K c s.castSucc _ hO))
  isplitl [Hf HO]
  · isplitr; · iexact HK
    isplitl [Hf]; · iexact Hf
    iexact HO
  iintro ⟨Hg, Hp, Hz, HO⟩
  iapply (run_step c (run_calc m c s))
  isplitl [Hx Hg Hs]
  · isplitl [Hx]; · iexact Hx
    isplitl [Hg]; · iexact Hg
    iexact Hs
  iintro ⟨Hx, Hw, Hs⟩
  iapply (wp_wand_r _ _ _ (Q := fun _ => iprop(sent c s ∗ ow (F := F) c A)))
  isplitl [Hs Hr Ht1 Ht2 HO]
  · iapply (run_xfer m K c s (sendDev c s) (sendDev_eq c s) A)
    isplitr; · iexact HK
    isplitl [Hs]; · iexact Hs
    isplitl [Hr]; · iexact Hr
    isplitl [Ht1]; · iexact Ht1
    isplitl [Ht2]; · iexact Ht2
    iexact HO
  iintro %a ⟨Hc, HO⟩
  isplitl [Hw Hz]
  · isplitl [Hw]; · iexact Hw
    iexact Hz
  isplitl [Hp]; · iexact Hp
  isplitl [Hx]; · iexact Hx
  isplitl [Hc]; · iexact Hc
  iexact HO

end Cert.AllToAllGelu

end
-- ==== Proof.Rows.lean ====
/-
# The rows of the result, one device's block at a time, and the waits around them
-/
module

public import proofs.«01_k».proof.Proof.Send
public import Idealize.ShloMosaic.Lib.ReshapeSlab

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev xSt : Memref sig .tc .vmem S256x4096 .f32 := Memref.whole cc0_stg0_0
abbrev outM : Memref sig .tc .vmem S4096x512 .f32 := Memref.whole cc0_stg1_0
abbrev OutBuf (F : FTy → Type) : Type := (cc0_stg1_0 : Ref sig .tc).ty.Contents (Elt F)

/-! ## One device's rows of the result -/

def getRow (d : Dev nD) (f : OutBuf F) : Vec F S256x512 .f32 := (outM.access (rowRect d)).read (Elt F) f
def putRow (d : Dev nD) (f : OutBuf F) (w : Vec F S256x512 .f32) : OutBuf F := (outM.access (rowRect d)).write (Elt F) f w Finset.univ

theorem getRow_putRow (d : Dev nD) (f : OutBuf F) (w : Vec F S256x512 .f32) : getRow d (putRow d f w) = w := View.read_write_univ _ _
theorem row_disjoint {d d' : Dev nD} (h : d ≠ d') : Disjoint (outM.access (rowRect d)).set (outM.access (rowRect d')).set :=
  View.disjoint_slice_of_sep _ (rowRect d) (rowRect d') (0 : Fin 2) rfl rfl (by
    have : d.val ≠ d'.val := fun hh => h (Fin.ext hh)
    show 256 * d.val + 256 ≤ 256 * d'.val ∨ 256 * d'.val + 256 ≤ 256 * d.val
    omega)
theorem getRow_putRow_ne {d d' : Dev nD} (h : d ≠ d') (f : OutBuf F) (w : Vec F S256x512 .f32) : getRow d (putRow d' f w) = getRow d f := by
  have hd := row_disjoint h
  unfold getRow putRow
  unfold Memref.access at hd ⊢
  refine View.read_slice_write_slice_of_disjoint (v := outM.view) (rowRect d) (rowRect d') f w Finset.univ ?_
  rw [View.setOn_univ]; exact hd

theorem write_row {o : Fin 2 → ℕ} {d : Dev nD} (h : o = ![256 * d.val, 0]) (hi) (f : OutBuf F) (w : Vec F S256x512 .f32) :
    (outM.access (Rect.unit (s := S4096x512) o S256x512.size hi)).write (Elt F) f w Finset.univ = putRow d f w := by
  subst h; rfl

variable (m : (ℓ : Loc nD τ sig) → Buf (Elt F) ℓ) (K : Dev nD × Kix → ℕ) (c : Dev nD)

/-- The rows done by the first `j` receives: the device's own, and those of the devices heard from. -/
def Done (j : ℕ) (d : Dev nD) : Prop := d = c ∨ ∃ s : Fin 15, s.val < j ∧ d = src s c
theorem done_all (d : Dev nD) : Done c 15 d := by
  by_cases h : d = c
  · exact .inl h
  · obtain ⟨s, hs⟩ := src_cover c d h
    exact .inr ⟨s, s.isLt, hs.symm⟩

def outPts (f : OutBuf F) : sProp 𝕄 := ((c : Thread nD τ).loc cc0_stg1_0) ↦{fullShare} f
/-- The result with the rows of the first `j` receives in place. -/
def outInv (j : ℕ) : sProp 𝕄 := iprop(∃ f : OutBuf F, ⌜∀ d, Done c j d → getRow d f = rowsOf m c d⌝ ∗ outPts c f)

theorem done_own (f : OutBuf F) (d : Dev nD) (h : Done c 0 d) : getRow d (putRow c f (rowsOf m c c)) = rowsOf m c d := by
  rcases h with rfl | ⟨s, hs, -⟩
  · exact getRow_putRow _ _ _
  · omega
theorem done_next (s : Fin 15) (f : OutBuf F) (hf : ∀ d, Done c s.val d → getRow d f = rowsOf m c d) (d : Dev nD) (h : Done c (s.val + 1) d) :
    getRow d (putRow (src s c) f (rowsOf m c (src s c))) = rowsOf m c d := by
  by_cases hd : d = src s c
  · subst hd; exact getRow_putRow _ _ _
  · rw [getRow_putRow_ne hd]
    refine hf d ?_
    rcases h with h | ⟨s', hs', h⟩
    · exact .inl h
    · refine .inr ⟨s', ?_, h⟩
      have : s' ≠ s := fun e => hd (e ▸ h)
      have : s'.val ≠ s.val := fun e => this (Fin.ext e)
      omega

/-! ## The rows of `x` in bf16 -/

def xStPts : sProp 𝕄 := ((c : Thread nD τ).loc cc0_stg0_0) ↦{fullShare} xstg m c
theorem xSt_read (f : (cc0_stg0_0 : Ref sig .tc).ty.Contents (Elt F)) : xSt.view.readAt (Elt F) xRect.toLoadRect f = f :=
  Memref.readAt_unit_zero (Elt F) cc0_stg0_0 hz2 _ f
theorem xM_write (f w : (cc0_scratch0 : Ref sig .tc).ty.Contents (Elt F)) : (xM.access xRect).write (Elt F) f w Finset.univ = w :=
  Memref.write_access_unit_zero_univ (Elt F) cc0_scratch0 hz2 _ f w

theorem run_cast :
    iprop(xStPts m c ∗ (∃ f : (cc0_scratch0 : Ref sig .tc).ty.Contents (Elt F), ((c : Thread nD τ).loc cc0_scratch0) ↦{fullShare} f))
      ⊢ run c (castStep xSt) fun _ => iprop(xStPts m c ∗ xPts m c) := by
  unfold run castStep xPts xStPts
  simp only [Prog.lift, Prog.bind_op, Prog.bind_ret, Prog.pure_eq_ret]
  iintro ⟨Hs, ⟨%f, Hx⟩⟩
  iapply (wp_load 𝒱₀ (c : Thread nD τ) none Set.univ (m := xSt) (Finset.subset_univ _)) $$ Hs; iintro Hs
  rw [xSt_read]
  iapply (wp_load 𝒱₀ (c : Thread nD τ) none Set.univ (m := xM) (Finset.subset_univ _)) $$ Hx; iintro Hx
  iapply (wp_store 𝒱₀ (c : Thread nD τ) none Set.univ (m := xM) (r := xRect) (Mk := Finset.univ)
    (S := Finset.univ) (f := f) (Finset.subset_univ _)) $$ Hx; iintro Hx
  rw [wp_ret]; imodintro
  isplitl [Hs]; · iexact Hs
  rw [xM_write]; iexact Hx

/-! ## The rows the device computes itself -/

/-- The product the device keeps, computed and stored. -/
def ownCalc (d : Dev nD) : Code F := do
  let x : Vec F S256x4096 .bf16 ← Prog.lift (.load xM xRect.toLoadRect (View.loadsAt_vmem h_S256x4096))
  let w : Vec F S1x4096x512 .f32 ← Prog.lift (.load wBufM (wRect (slotOf 15)).toLoadRect (View.loadsAt_vmem h_S1x4096x512))
  let _ ← (Prog.lift (.load outM (ownRect d).toLoadRect (View.loadsAt_vmem h_S256x512)) : Prog (TpuEff nD τ sig (Elt F) Λ₀ .tc) (Vec F S256x512 .f32))
  Prog.lift (.store outM (ownRect d) (blockOf x w) Finset.univ (View.stores_vmem_bits_univ h_S256x512 rfl) (.inl rfl))

theorem run_ownCalc :
    iprop(xPts m c ∗ wGot m c 15 ∗ (∃ f : OutBuf F, outPts c f))
      ⊢ run c (ownCalc c) fun _ =>
          iprop(xPts m c ∗ (∃ X : S4096x512.Idx → Elt F .f32, owns (c : Thread nD τ) (wSlot (slotOf 15)) fullShare X) ∗ outInv m c 0) := by
  unfold run ownCalc xPts wGot outPts
  simp only [Prog.lift, Prog.bind_op, Prog.bind_ret, Prog.pure_eq_ret]
  iintro ⟨Hx, Hw, ⟨%fo, Ho⟩⟩
  ihave Hw := (wPart_open c _ _) $$ Hw
  icases Hw with ⟨%fw, %hfw, Hw⟩
  unfold wPart
  iapply (wp_load 𝒱₀ (c : Thread nD τ) none Set.univ (m := xM) (Finset.subset_univ _)) $$ Hx; iintro Hx
  rw [xM_read]
  iapply (wp_load_rect 𝒱₀ (c : Thread nD τ) none Set.univ (m := wBufM) (r := wRect (slotOf 15))
    (Finset.Subset.refl _)) $$ Hw; iintro Hw
  rw [hfw]
  iapply (wp_load 𝒱₀ (c : Thread nD τ) none Set.univ (m := outM) (Finset.subset_univ _)) $$ Ho; iintro Ho
  iapply (wp_store 𝒱₀ (c : Thread nD τ) none Set.univ (m := outM) (r := ownRect c) (Mk := Finset.univ)
    (S := Finset.univ) (f := fo) (Finset.subset_univ _)) $$ Ho; iintro Ho
  rw [wp_ret]; imodintro
  isplitl [Hx]; · iexact Hx
  isplitl [Hw]
  · iapply (wPart_close c _ fw); unfold wPart; iexact Hw
  · rw [write_row (off2_eq c)]
    unfold outInv outPts
    iexists _
    isplitr
    rotate_left
    · iexact Ho
    · ipureintro
      intro d hd
      rw [show blockOf (xb m c) (shapeCast S1x4096x512 (cols m c (colOf 15 c)) casts_w) = rowsOf m c c from by
        rw [rowsOf_self, colOf_last]; rfl]
      exact done_own m c fo d hd

theorem ownStep_eq : (ownStep outM c : Code F) = (fetchWait c 15 >>= fun _ => ownCalc c) := rfl

theorem run_ownStep (A : Tallies) (hA : Above 0 A) :
    iprop(know m K ∗ wFly m c 15 ∗ xPts m c ∗ (∃ f : OutBuf F, outPts c f) ∗ ow (F := F) c A)
      ⊢ run c (ownStep outM c) fun _ =>
          iprop(wFree (F := F) c (slotOf 15) ∗ wPts m c 15 ∗ xPts m c ∗ outInv m c 0 ∗ ow (F := F) c A) := by
  rw [ownStep_eq]
  unfold wFree
  iintro ⟨#HK, Hf, Hx, Ho, HO⟩
  iapply (run_step c (run_fetchWait m K c 15 _ hA))
  isplitl [Hf HO]
  · isplitr; · iexact HK
    isplitl [Hf]; · iexact Hf
    iexact HO
  iintro ⟨Hg, Hp, Hz, HO⟩
  iapply (wp_wand_r _ _ _ (Q := fun _ => iprop(xPts m c ∗ (∃ X : S4096x512.Idx → Elt F .f32, owns (c : Thread nD τ) (wSlot (slotOf 15)) fullShare X) ∗ outInv m c 0)))
  isplitl [Hx Hg Ho]
  · iapply (run_ownCalc m c)
    isplitl [Hx]; · iexact Hx
    isplitl [Hg]; · iexact Hg
    iexact Ho
  iintro %a ⟨Hx, Hw, Ho⟩
  isplitl [Hw Hz]
  · isplitl [Hw]; · iexact Hw
    iexact Hz
  isplitl [Hp]; · iexact Hp
  isplitl [Hx]; · iexact Hx
  isplitl [Ho]; · iexact Ho
  iexact HO

/-! ## The waits for the transfers -/

/-- A wait for the credit of a transfer's cell. -/
theorem run_xferWait (k : Fin 15 ⊕ Fin 15) (sem : DmaSem sig) (hsem : csem (.inr k) = .dma sem)
    {w : TpuEff nD τ sig (Elt F) Λ₀ .tc PUnit}
    (hw : ∀ Kp : PUnit → sProp 𝕄, wpE (defs₀ (F := F)) 𝒱₀ (c : Thread nD τ) none Set.univ w Kp = waitSpec (c : Thread nD τ) Set.univ (.dma sem) N Kp)
    (n : ℕ) (O : Tallies) (hO : Above n O) (hn : lvK (some (.inr k)) ≤ n) :
    iprop(know m K ∗ cred (tallyAt (kcell (c, .inr k)) () N) ∗ atPos ER (kcell (c, .inr k)) 0 ∅ 0 ∗ ow (F := F) c O)
      ⊢ run c (Prog.lift w) fun _ =>
          iprop(payOf m c (some (.inr k)) 0 ∗ semVal (kcell (c, .inr k)) 0 ∗ ow (F := F) c O) := by
  have hcell : kcell (c, .inr k) = ((c : Thread nD τ), SemLoc.dma sem) := by
    show ((c : Thread nD τ), csem (.inr k)) = _; rw [hsem]
  have hI := know_inv (F := F) m K (c, .inr k)
  have hexp := expect_xfer (F := F) m c k
  have hrest := rest_xfer (F := F) m c k
  have hmw := mayWait_kcell (F := F) c (.inr k) hO hn
  rw [hcell] at hI hexp hrest
  rw [hsem] at hmw
  rw [hcell]
  unfold run ow
  simp only [Prog.lift]
  iintro ⟨#HK, Hc, Hat, ⟨%W, HO⟩⟩
  iapply (Rounds.wp_wait_rest_token 𝒱₀ ER (Rd m) (c : Thread nD τ) none (κ := K (c, .inr k))
      hw (Set.mem_univ _) () (O := O) (W := W) (R := 0) (m := 0) (T := ∅)
      (by rw [Nat.zero_add, hexp])) $$ [Hc HO Hat]
  · isplitr; · iapply hI; iexact HK
    isplitl [Hc]; · iexact Hc
    isplitl [HO]; · iexact HO
    isplitr; · iapply ((know_lev (F := F) m K).trans hmw); iexact HK
    iexact Hat
  iintro ⟨HO, Hat, -, Hpay⟩
  imod (Rounds.cell_close ER (Rd m) (Set.mem_univ (K (c, .inr k))) (fun h => h) (R := 0 + 1) (duties_later m ((c : Thread nD τ), SemLoc.dma sem))) $$ [Hat] with Hz
  · isplitr; · iapply hI; iexact HK
    iexact Hat
  rw [wp_ret]; imodintro
  isplitl [Hpay]; · rw [← hrest]; iexact Hpay
  isplitl [Hz]; · iexact Hz
  iexists _; iexact HO

/-! ### The sends -/

def sendIn (s : Fin 15) : sProp 𝕄 := iprop(sent c s ∗ atPos ER (sendCell c s) 0 ∅ 0)
def sendOut (s : Fin 15) : sProp 𝕄 := iprop(sAny c s ∗ semVal (sendCell c s) 0)
def sendInv (n : ℕ) : sProp 𝕄 :=
  iprop(bigSep (restOf n) (sendIn (F := F) c) ∗ bigSep (firstOf n) (sendOut (F := F) c) ∗ ow (F := F) c (owedFrom (exitOwe c) 0))

theorem run_sendWaits (s : Fin 15) :
    iprop(know m K ∗ cred (tallyAt (sendCell c s) () N) ∗ atPos ER (sendCell c s) 0 ∅ 0 ∗ ow (F := F) c (owedFrom (exitOwe c) 0))
      ⊢ run c (sendWait s) fun _ => iprop(sAny c s ∗ semVal (sendCell c s) 0 ∗ ow (F := F) c (owedFrom (exitOwe c) 0)) :=
  run_xferWait m K c (.inl s) (sendSem s) rfl
    (w := .waitDma2 (sendSem s) (rSlot s) (sSlot s) ((hrBufM.wordExact_slice rfl _ (bRect_words s)).reshape _ _) ((hsBufM.wordExact_slice rfl _ (bRect_words s)).reshape _ _))
    (wpE_waitDma2_eq 𝒱₀ (c : Thread nD τ) none Set.univ) 2 _ (above_exit c 0) (by decide : 0 ≤ 2)

theorem run_sendWait (s : Fin 15) :
    iprop(know m K ∗ sendInv (F := F) c s.val) ⊢ run c (sendWait s) fun _ => sendInv c (s.val + 1) := by
  unfold sendInv
  rw [rest_peel, first_push]
  iintro ⟨#HK, ⟨Hi, Hrest⟩, Hfirst, HO⟩
  iapply (wp_wand_r _ _ _ (Q := fun _ => iprop(sAny c s ∗ semVal (sendCell c s) 0 ∗ ow (F := F) c (owedFrom (exitOwe c) 0))))
  isplitl [Hi HO]
  · unfold sendIn sent
    icases Hi with ⟨Hc, Hat⟩
    iapply (run_sendWaits m K c s)
    isplitr; · iexact HK
    isplitl [Hc]; · iexact Hc
    isplitl [Hat]; · iexact Hat
    iexact HO
  · iintro %a ⟨Hs, Hz, HO⟩
    isplitl [Hrest]; · iexact Hrest
    isplitl [Hs Hz Hfirst]
    · isplitl [Hs Hz]
      · unfold sendOut
        isplitl [Hs]; · iexact Hs
        iexact Hz
      · iexact Hfirst
    iexact HO

/-! ### The receives -/

def recvIn (s : Fin 15) : sProp 𝕄 := iprop(cred (tallyAt (recvCell c s) () N) ∗ atPos ER (recvCell c s) 0 ∅ 0)
def recvOut (s : Fin 15) : sProp 𝕄 := iprop(rAny c s ∗ semVal (recvCell c s) 0)
def recvInv (n : ℕ) : sProp 𝕄 :=
  iprop(bigSep (restOf n) (recvIn (F := F) c) ∗ bigSep (firstOf n) (recvOut (F := F) c) ∗ outInv m c n ∗ ow (F := F) c (owedFrom (exitOwe c) 0))

/-- The received slot put in its place in the result. -/
def recvPut (d : Dev nD) (s : Fin 15) : Code F := do
  let r : Vec F S1x256x512 .bf16 ← Prog.lift (.load rBufM (bRect s).toLoadRect (View.loadsAt_vmem h_S1x256x512))
  let _ ← (Prog.lift (.load outM (fromRect d s).toLoadRect (View.loadsAt_vmem h_S256x512)) : Prog (TpuEff nD τ sig (Elt F) Λ₀ .tc) (Vec F S256x512 .f32))
  Prog.lift (.store outM (fromRect d s) (gotOf r) Finset.univ (View.stores_vmem_bits_univ h_S256x512 rfl) (.inl rfl))
def recvWait (s : Fin 15) : Code F :=
  Prog.lift (.waitDma2 (recvSem s) (sSlot 0) (rSlot s) ((hsBufM.wordExact_slice rfl _ (bRect_words 0)).reshape _ _) ((hrBufM.wordExact_slice rfl _ (bRect_words s)).reshape _ _))
theorem run_recvWait (s : Fin 15) :
    iprop(know m K ∗ cred (tallyAt (recvCell c s) () N) ∗ atPos ER (recvCell c s) 0 ∅ 0 ∗ ow (F := F) c (owedFrom (exitOwe c) 0))
      ⊢ run c (recvWait s) fun _ => iprop(rGot m c s ∗ semVal (recvCell c s) 0 ∗ ow (F := F) c (owedFrom (exitOwe c) 0)) :=
  run_xferWait m K c (.inr s) (recvSem s) rfl
    (w := .waitDma2 (recvSem s) (sSlot 0) (rSlot s) ((hsBufM.wordExact_slice rfl _ (bRect_words 0)).reshape _ _) ((hrBufM.wordExact_slice rfl _ (bRect_words s)).reshape _ _))
    (wpE_waitDma2_eq 𝒱₀ (c : Thread nD τ) none Set.univ) 2 _ (above_exit c 0) (by decide : 2 ≤ 2)
theorem recvStep_eq (s : Fin 15) : (recvStep outM c s : Code F) = (recvWait s >>= fun _ => recvPut c s) := rfl

theorem run_recvPut (s : Fin 15) :
    iprop(rGot m c s ∗ outInv m c s.val) ⊢ run c (recvPut c s) fun _ => iprop(rAny c s ∗ outInv m c (s.val + 1)) := by
  unfold run recvPut rGot outInv outPts
  simp only [Prog.lift, Prog.bind_op, Prog.bind_ret, Prog.pure_eq_ret]
  iintro ⟨Hr, ⟨%fo, %hfo, Ho⟩⟩
  ihave Hr := (rPart_open c _ _) $$ Hr
  icases Hr with ⟨%fr, %hfr, Hr⟩
  unfold rPart
  iapply (wp_load_rect 𝒱₀ (c : Thread nD τ) none Set.univ (m := rBufM) (r := bRect s) (Finset.Subset.refl _)) $$ Hr; iintro Hr
  rw [hfr]
  iapply (wp_load 𝒱₀ (c : Thread nD τ) none Set.univ (m := outM) (Finset.subset_univ _)) $$ Ho; iintro Ho
  iapply (wp_store 𝒱₀ (c : Thread nD τ) none Set.univ (m := outM) (r := fromRect c s) (Mk := Finset.univ)
    (S := Finset.univ) (f := fo) (Finset.subset_univ _)) $$ Ho; iintro Ho
  rw [wp_ret]; imodintro
  isplitl [Hr]
  · iapply (rPart_close c _ fr); unfold rPart; iexact Hr
  · rw [write_row (off3_eq c s), gotOf_eq, ← rowsOf_src]
    iexists _
    isplitr
    rotate_left
    · iexact Ho
    · ipureintro
      exact done_next m c s fo hfo

theorem run_recvStep (s : Fin 15) :
    iprop(know m K ∗ recvInv m c s.val) ⊢ run c (recvStep outM c s) fun _ => recvInv m c (s.val + 1) := by
  unfold recvInv
  rw [recvStep_eq, rest_peel, first_push]
  iintro ⟨#HK, ⟨Hi, Hrest⟩, Hfirst, Hout, HO⟩
  iapply (run_step c (run_recvWait m K c s))
  isplitl [Hi HO]
  · unfold recvIn
    icases Hi with ⟨Hc, Hat⟩
    isplitr; · iexact HK
    isplitl [Hc]; · iexact Hc
    isplitl [Hat]; · iexact Hat
    iexact HO
  iintro ⟨Hr, Hz, HO⟩
  iapply (wp_wand_r _ _ _ (Q := fun _ => iprop(rAny c s ∗ outInv m c (s.val + 1))))
  isplitl [Hr Hout]
  · iapply (run_recvPut m c s)
    isplitl [Hr]; · iexact Hr
    iexact Hout
  iintro %a ⟨Hr, Hout⟩
  isplitl [Hrest]; · iexact Hrest
  isplitl [Hr Hz Hfirst]
  · isplitl [Hr Hz]
    · unfold recvOut
      isplitl [Hr]; · iexact Hr
      iexact Hz
    · iexact Hfirst
  isplitl [Hout]; · iexact Hout
  iexact HO

end Cert.AllToAllGelu

end
-- ==== Proof.Whole.lean ====
/-
# The whole of a device's program
-/
module

public import proofs.«01_k».proof.Proof.Rows
public import proofs.«01_k».proof.Proof.Hand

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Kix → ℕ) (c : Dev nD)

/-! ## The sending steps, two fetches ahead -/

abbrev stepN (n : ℕ) : Fin 16 := Fin.ofNat 16 n
abbrev slotN (n : ℕ) : Fin 3 := Fin.ofNat 3 n
theorem slotOf_eq : ∀ t : Fin 16, slotOf t = slotN t.val := by decide
theorem slotN_three (n : ℕ) : slotN (n + 3) = slotN n := Fin.ext (by show (n + 3) % 3 = n % 3; omega)
theorem stepN_val (t : Fin 16) : stepN t.val = t := Fin.ext (Nat.mod_eq_of_lt t.isLt)

/-- The fetches of steps `n` and `n + 1` under way, the third slot free, and the first `n` products sent. -/
def loopInv (n : ℕ) : sProp 𝕄 :=
  iprop(wFly m c (stepN n) ∗ wFly m c (stepN (n + 1)) ∗ wFree (F := F) c (slotN (n + 2))
    ∗ bigSep (restOf (n + 2)) (wPts m c) ∗ bigSep (firstOf n) (wPts m c)
    ∗ bigSep (restOf n) (ready (F := F) c) ∗ bigSep (firstOf n) (sent (F := F) c)
    ∗ xPts m c ∗ ow (F := F) c (owedFrom (exitOwe c) 0 + owedFrom (recvOwe c) n))

theorem above_loop (n : ℕ) : Above 0 (owedFrom (exitOwe c) 0 + owedFrom (recvOwe c) n) :=
  ((above_exit c 0).mono (by decide)).add ((above_recv c n).mono (by decide))

theorem run_fetchSend (i : Fin 14) : iprop(know m K ∗ loopInv m c i.val) ⊢ run c (fetchSend c i) fun _ => loopInv m c (i.val + 1) := by
  have h0 : stepN i.val = i.castSucc.castSucc := stepN_val i.castSucc.castSucc
  have h2 : stepN (i.val + 1 + 1) = i.succ.succ := stepN_val i.succ.succ
  have hs2 : slotN (i.val + 2) = slotOf i.succ.succ := (slotOf_eq i.succ.succ).symm
  have hs0 : slotN (i.val + 1 + 2) = slotOf i.castSucc.castSucc := (slotN_three i.val).trans (slotOf_eq i.castSucc.castSucc).symm
  have hr : bigSep (restOf (i.val + 2)) (wPts m c) = iprop(wPts m c i.succ.succ ∗ bigSep (restOf (i.val + 1 + 2)) (wPts m c)) := rest_peel _ i.succ.succ
  have hf : bigSep (firstOf (i.val + 1)) (wPts m c) = iprop(wPts m c i.castSucc.castSucc ∗ bigSep (firstOf i.val) (wPts m c)) := first_push _ i.castSucc.castSucc
  have hrr : bigSep (restOf i.val) (ready (F := F) c) = iprop(ready c i.castSucc ∗ bigSep (restOf (i.val + 1)) (ready c)) := rest_peel _ i.castSucc
  have hss : bigSep (firstOf (i.val + 1)) (sent (F := F) c) = iprop(sent c i.castSucc ∗ bigSep (firstOf i.val) (sent c)) := first_push _ i.castSucc
  have ho : owedFrom (recvOwe c) i.val = owedFrom (recvOwe c) (i.val + 1) + recvOwe c i.castSucc := owedFrom_val _ i.castSucc
  unfold loopInv fetchSend
  rw [h0, h2, hs2, hs0, hr, hf, hrr, hss, ho, ← add_assoc]
  iintro ⟨#HK, Hf0, Hf1, Hw, ⟨Hp2, Hps⟩, Hpf, ⟨Hr, Hrs⟩, Hss, Hx, HO⟩
  iapply (run_step c (run_fetch m c i.succ.succ))
  isplitl [Hw Hp2]
  · isplitl [Hw]; · iexact Hw
    iexact Hp2
  iintro Hf2
  iapply (wp_wand_r _ _ _ (Q := fun _ => iprop(wFree (F := F) c (slotOf i.castSucc.castSucc) ∗ wPts m c i.castSucc.castSucc ∗ xPts m c ∗ sent c i.castSucc
    ∗ ow (F := F) c (owedFrom (exitOwe c) 0 + owedFrom (recvOwe c) (i.val + 1)))))
  isplitl [Hf0 Hx Hr HO]
  · iapply (run_sendStep m K c i.castSucc _ (above_loop c _))
    isplitr; · iexact HK
    isplitl [Hf0]; · iexact Hf0
    isplitl [Hx]; · iexact Hx
    isplitl [Hr]; · iexact Hr
    iexact HO
  iintro %a ⟨Hw, Hp, Hx, Hs, HO⟩
  isplitl [Hf1]; · iexact Hf1
  isplitl [Hf2]; · iexact Hf2
  isplitl [Hw]; · iexact Hw
  isplitl [Hps]; · iexact Hps
  isplitl [Hp Hpf]
  · isplitl [Hp]; · iexact Hp
    iexact Hpf
  isplitl [Hrs]; · iexact Hrs
  isplitl [Hs Hss]
  · isplitl [Hs]; · iexact Hs
    iexact Hss
  isplitl [Hx]; · iexact Hx
  iexact HO

/-! ## What the program starts from and leaves -/

/-- The copying buffers and their semaphores, nothing under way. -/
def wIdle : sProp 𝕄 := iprop(wFree (F := F) c 0 ∗ wFree (F := F) c 1 ∗ wFree (F := F) c 2)
/-- What is left to make a sending step ready once the receiving slot is known to be free. -/
def sendable (s : Fin 15) : sProp 𝕄 :=
  iprop(sAny (F := F) c s ∗ dutyTok ER (sendCell c s) 0 0 ∗ dutyTok ER (recvCell (peer s c) s) 0 0)

/-- The device's own part of the meeting places: positions, credits, and tokens. -/
def handle (i : Fin 2) : sProp 𝕄 := iprop(cred (tallyAt (kcell (c, .inl i)) () 15) ∗ atPos ER (kcell (c, .inl i)) 0 ∅ 0)

def sendAt (s : Fin 15) : sProp 𝕄 := atPos ER (sendCell c s) 0 ∅ 0

def before : sProp 𝕄 :=
  iprop(bigSep Finset.univ (barIn (F := F) c) ∗ handle (F := F) c 0 ∗ bigSep Finset.univ (exitIn (F := F) c) ∗ handle (F := F) c 1
    ∗ bigSep Finset.univ (sendable (F := F) c) ∗ bigSep Finset.univ (sendAt (F := F) c) ∗ bigSep Finset.univ (recvIn (F := F) c)
    ∗ (∃ f : (cc0_scratch0 : Ref sig .tc).ty.Contents (Elt F), ((c : Thread nD τ).loc cc0_scratch0) ↦{fullShare} f)
    ∗ wIdle (F := F) c ∗ bigSep Finset.univ (wPts m c)
    ∗ xStPts m c ∗ (∃ f : OutBuf F, outPts c f) ∗ ow (F := F) c (O₀ c))

def after : sProp 𝕄 :=
  iprop(semVal (barCell c) 0 ∗ semVal (exitCell c) 0 ∗ bigSep Finset.univ (sendOut (F := F) c) ∗ bigSep Finset.univ (recvOut (F := F) c)
    ∗ xPts m c ∗ wIdle (F := F) c ∗ bigSep Finset.univ (wPts m c)
    ∗ xStPts m c ∗ outInv m c 15 ∗ ow (F := F) c 0)

theorem above_O₁ : Above 1 (O₁ c) := (above_recv c 0).add ((above_exit c 0).mono (by decide))

theorem ready_intro :
    iprop((bigSep Finset.univ fun d => payOf m c (some (.inl 0)) d) ∗ bigSep Finset.univ (sendable (F := F) c))
      ⊢ bigSep Finset.univ (ready (F := F) c) := by
  rw [← bigSep_sep']
  refine bigSep_mono fun s _ => ?_
  show iprop(rAny (peer s c) s ∗ sendable c s) ⊢ _
  unfold sendable ready
  iintro ⟨Hr, Hs, H1, H2⟩
  isplitl [Hs]; · iexact Hs
  isplitl [Hr]; · iexact Hr
  isplitl [H1]; · iexact H1
  iexact H2

theorem sendIn_intro :
    iprop(bigSep Finset.univ (sent (F := F) c) ∗ bigSep Finset.univ (sendAt (F := F) c))
      ⊢ bigSep Finset.univ (sendIn (F := F) c) := by
  rw [← bigSep_sep']
  exact .rfl

/-! ## The parts of the program -/

/-- The entry handshake. -/
theorem run_entry {k : Code F} {Q : PUnit → sProp 𝕄} :
    iprop(know m K ∗ bigSep Finset.univ (barIn (F := F) c) ∗ handle (F := F) c 0 ∗ ow (F := F) c (O₀ c)
        ∗ (((bigSep Finset.univ fun d => payOf m c (some (.inl 0)) d) ∗ semVal (barCell c) 0 ∗ ow (F := F) c (O₁ c)) -∗ run c k Q))
      ⊢ run c (runAll (barStep c) fifteen ((semWaitWord barSem 15#32 : Code F) >>= fun _ => k)) Q := by
  iintro ⟨#HK, Hin, Hh, HO, Hk⟩
  iapply (run_all c (barStep c) (know m K) (barInv c) (run_barStep m K c) fifteen 0 consec_fifteen)
  isplitr; · iexact HK
  isplitl [Hin HO]
  · unfold barInv
    rw [restOf_zero]
    isplitl [Hin]; · iexact Hin
    unfold O₀; iexact HO
  unfold barInv handle
  rw [restOf_all, owedFrom_all, add_zero]
  iintro ⟨-, HO⟩
  icases Hh with ⟨Hc, Hat⟩
  iapply (run_step c (run_hand m K c 0 barSem rfl 1 (O₁ c) (above_O₁ c) (by decide)))
  isplitl [Hc Hat HO]
  · isplitr; · iexact HK
    isplitl [Hc]; · iexact Hc
    isplitl [Hat]; · iexact Hat
    iexact HO
  iexact Hk

/-- The exit handshake. -/
theorem run_exit :
    iprop(know m K ∗ bigSep Finset.univ (exitIn (F := F) c) ∗ handle (F := F) c 1 ∗ ow (F := F) c (owedFrom (exitOwe c) 0))
      ⊢ run c (runAll (exitStep c) fifteen (semWaitWord exitSem 15#32)) fun _ => iprop(semVal (exitCell c) 0 ∗ ow (F := F) c 0) := by
  iintro ⟨#HK, Hin, Hh, HO⟩
  iapply (run_all c (exitStep c) (know m K) (exitInv c) (run_exitStep m K c) fifteen 0 consec_fifteen)
  isplitr; · iexact HK
  isplitl [Hin HO]
  · unfold exitInv
    rw [restOf_zero]
    isplitl [Hin]; · iexact Hin
    iexact HO
  unfold exitInv handle
  rw [restOf_all, owedFrom_all]
  iintro ⟨-, HO⟩
  icases Hh with ⟨Hc, Hat⟩
  iapply (wp_wand_r _ _ _ (Q := fun _ => iprop((bigSep Finset.univ fun d => payOf m c (some (.inl 1)) d) ∗ semVal (kcell (c, .inl 1)) 0 ∗ ow (F := F) c 0)))
  isplitl [Hc Hat HO]
  · iapply (run_hand m K c 1 exitSem rfl 3 0 Above.zero (by decide))
    isplitr; · iexact HK
    isplitl [Hc]; · iexact Hc
    isplitl [Hat]; · iexact Hat
    iexact HO
  iintro %a ⟨-, Hz, HO⟩
  isplitl [Hz]; · iexact Hz
  iexact HO

/-- The first two fetches and the sends. -/
theorem run_sends {k : Code F} {Q : PUnit → sProp 𝕄} :
    iprop(know m K ∗ wIdle (F := F) c ∗ bigSep Finset.univ (wPts m c) ∗ bigSep Finset.univ (ready (F := F) c) ∗ xPts m c ∗ ow (F := F) c (O₁ c)
        ∗ ((loopInv m c 14) -∗ run c k Q))
      ⊢ run c (fetchStep c 0 >>= fun _ => fetchStep c 1 >>= fun _ => runAll (fetchSend c) fourteen k) Q := by
  have e1 : bigSep Finset.univ (wPts m c) = iprop(wPts m c 0 ∗ wPts m c 1 ∗ bigSep (restOf 2) (wPts m c)) := by
    rw [← restOf_zero, show bigSep (restOf 0) (wPts m c) = _ from rest_peel (wPts m c) 0,
      show bigSep (restOf ((0 : Fin 16).val + 1)) (wPts m c) = _ from rest_peel (wPts m c) 1]
    rfl
  unfold wIdle
  rw [e1]
  iintro ⟨#HK, ⟨H0, H1, H2⟩, ⟨Hp0, Hp1, Hps⟩, Hr, Hx, HO, Hk⟩
  iapply (run_step c (run_fetch m c 0))
  isplitl [H0 Hp0]
  · isplitl [H0]; · iexact H0
    iexact Hp0
  iintro Hf0
  iapply (run_step c (run_fetch m c 1))
  isplitl [H1 Hp1]
  · isplitl [H1]; · iexact H1
    iexact Hp1
  iintro Hf1
  iapply (run_all c (fetchSend c) (know m K) (loopInv m c) (run_fetchSend m K c) fourteen 0 consec_fourteen)
  isplitr; · iexact HK
  isplitr [Hk]
  · unfold loopInv
    rw [firstOf_zero, firstOf_zero, restOf_zero (k := 15), bigSep_empty, bigSep_empty]
    isplitl [Hf0]; · iexact Hf0
    isplitl [Hf1]; · iexact Hf1
    isplitl [H2]; · iexact H2
    isplitl [Hps]; · iexact Hps
    isplitr; · iempintro
    isplitl [Hr]; · iexact Hr
    isplitr; · iempintro
    isplitl [Hx]; · iexact Hx
    unfold O₁; rw [add_comm]; iexact HO
  iexact Hk

/-- The last send and the product the device keeps. -/
theorem run_last {k : Code F} {Q : PUnit → sProp 𝕄} :
    iprop(know m K ∗ loopInv m c 14 ∗ (∃ f : OutBuf F, outPts c f)
        ∗ ((wIdle (F := F) c ∗ bigSep Finset.univ (wPts m c) ∗ bigSep Finset.univ (sent (F := F) c) ∗ xPts m c ∗ outInv m c 0
            ∗ ow (F := F) c (owedFrom (exitOwe c) 0)) -∗ run c k Q))
      ⊢ run c (sendStep c 14 >>= fun _ => ownStep outM c >>= fun _ => k) Q := by
  have e1 : bigSep Finset.univ (wPts m c) = iprop(wPts m c 15 ∗ wPts m c 14 ∗ bigSep (firstOf 14) (wPts m c)) := by
    rw [← firstOf_all, show bigSep (firstOf 16) (wPts m c) = _ from first_push (wPts m c) 15,
      show bigSep (firstOf (15 : Fin 16).val) (wPts m c) = _ from first_push (wPts m c) 14]
    rfl
  have e2 : bigSep Finset.univ (sent (F := F) c) = iprop(sent c 14 ∗ bigSep (firstOf 14) (sent c)) := by
    rw [← firstOf_all, show bigSep (firstOf 15) (sent (F := F) c) = _ from first_push (sent c) 14]; rfl
  have e3 : bigSep (restOf 14) (ready (F := F) c) = iprop(ready c 14 ∗ emp) := by
    rw [show bigSep (restOf 14) (ready (F := F) c) = _ from rest_peel (ready c) 14,
      show (restOf ((14 : Fin 15).val + 1) : Finset (Fin 15)) = ∅ from restOf_all, bigSep_empty]; rfl
  have e4 : owedFrom (recvOwe c) 14 = recvOwe c 14 := by
    rw [show owedFrom (recvOwe c) 14 = _ from owedFrom_val (recvOwe c) 14,
      show owedFrom (recvOwe c) ((14 : Fin 15).val + 1) = 0 from owedFrom_all _, zero_add]
  unfold loopInv
  rw [e1, e2, e3, e4]
  have hA : Above 0 (owedFrom (exitOwe c) 0) := (above_exit c 0).mono (by decide)
  iintro ⟨#HK, ⟨Hf0, Hf1, Hw, -, Hps, ⟨Hr, -⟩, Hss, Hx, HO⟩, Hout, Hk⟩
  iapply (run_step c (run_sendStep m K c 14 _ hA))
  isplitl [Hf0 Hx Hr HO]
  · isplitr; · iexact HK
    isplitl [Hf0]; · iexact Hf0
    isplitl [Hx]; · iexact Hx
    isplitl [Hr]; · iexact Hr
    iexact HO
  iintro ⟨Hw2, Hp14, Hx, Hs14, HO⟩
  iapply (run_step c (run_ownStep m K c _ hA))
  isplitl [Hf1 Hx Hout HO]
  · isplitr; · iexact HK
    isplitl [Hf1]; · iexact Hf1
    isplitl [Hx]; · iexact Hx
    isplitl [Hout]; · iexact Hout
    iexact HO
  iintro ⟨Hw0, Hp15, Hx, Hout, HO⟩
  iapply Hk
  unfold wIdle
  isplitl [Hw Hw2 Hw0]
  · isplitl [Hw0]; · iexact Hw0
    isplitl [Hw]; · iexact Hw
    iexact Hw2
  isplitl [Hp14 Hp15 Hps]
  · isplitl [Hp15]; · iexact Hp15
    isplitl [Hp14]; · iexact Hp14
    iexact Hps
  isplitl [Hs14 Hss]
  · isplitl [Hs14]; · iexact Hs14
    iexact Hss
  isplitl [Hx]; · iexact Hx
  isplitl [Hout]; · iexact Hout
  iexact HO

/-- The waits for the sends and the receives. -/
theorem run_waits {k : Code F} {Q : PUnit → sProp 𝕄} :
    iprop(know m K ∗ bigSep Finset.univ (sendIn (F := F) c) ∗ bigSep Finset.univ (recvIn (F := F) c) ∗ outInv m c 0 ∗ ow (F := F) c (owedFrom (exitOwe c) 0)
        ∗ ((bigSep Finset.univ (sendOut (F := F) c) ∗ bigSep Finset.univ (recvOut (F := F) c) ∗ outInv m c 15 ∗ ow (F := F) c (owedFrom (exitOwe c) 0)) -∗ run c k Q))
      ⊢ run c (runAll sendWait fifteen (runAll (recvStep outM c) fifteen k)) Q := by
  iintro ⟨#HK, Hs, Hr, Hout, HO, Hk⟩
  iapply (run_all c sendWait (know m K) (sendInv c) (run_sendWait m K c) fifteen 0 consec_fifteen)
  isplitr; · iexact HK
  isplitl [Hs HO]
  · unfold sendInv
    rw [restOf_zero, firstOf_zero, bigSep_empty]
    isplitl [Hs]; · iexact Hs
    isplitr; · iempintro
    iexact HO
  unfold sendInv
  rw [firstOf_all]
  iintro ⟨-, Hs, HO⟩
  iapply (run_all c (recvStep outM c) (know m K) (recvInv m c) (run_recvStep m K c) fifteen 0 consec_fifteen)
  isplitr; · iexact HK
  isplitl [Hr Hout HO]
  · unfold recvInv
    rw [restOf_zero, firstOf_zero, bigSep_empty]
    isplitl [Hr]; · iexact Hr
    isplitr; · iempintro
    isplitl [Hout]; · iexact Hout
    iexact HO
  unfold recvInv
  rw [firstOf_all]
  iintro ⟨-, Hr, Hout, HO⟩
  iapply Hk
  isplitl [Hs]; · iexact Hs
  isplitl [Hr]; · iexact Hr
  isplitl [Hout]; · iexact Hout
  iexact HO

/-- The program of device `c`, from its number on. -/
theorem run_rest : iprop(know m K ∗ before m c) ⊢ run c (rest xSt outM c) fun _ => after m c := by
  unfold before after rest
  iintro ⟨#HK, Hbar, Hh0, Hexit, Hh1, Hsd, Hat, Hrv, Hx, Hw, Hp, Hst, Hout, HO⟩
  iapply (run_entry m K c)
  isplitr; · iexact HK
  isplitl [Hbar]; · iexact Hbar
  isplitl [Hh0]; · iexact Hh0
  isplitl [HO]; · iexact HO
  iintro ⟨Hpay, Hz0, HO⟩
  iapply (run_step c (run_cast m c))
  isplitl [Hst Hx]
  · isplitl [Hst]; · iexact Hst
    iexact Hx
  iintro ⟨Hst, Hx⟩
  iapply (run_sends m K c)
  isplitr; · iexact HK
  isplitl [Hw]; · iexact Hw
  isplitl [Hp]; · iexact Hp
  isplitl [Hpay Hsd]
  · iapply (ready_intro m c)
    isplitl [Hpay]; · iexact Hpay
    iexact Hsd
  isplitl [Hx]; · iexact Hx
  isplitl [HO]; · iexact HO
  iintro Hl
  iapply (run_last m K c)
  isplitr; · iexact HK
  isplitl [Hl]; · iexact Hl
  isplitl [Hout]; · iexact Hout
  iintro ⟨Hw, Hp, Hss, Hx, Hout, HO⟩
  iapply (run_waits m K c)
  isplitr; · iexact HK
  isplitl [Hss Hat]
  · iapply (sendIn_intro (F := F) c)
    isplitl [Hss]; · iexact Hss
    iexact Hat
  isplitl [Hrv]; · iexact Hrv
  isplitl [Hout]; · iexact Hout
  isplitl [HO]; · iexact HO
  iintro ⟨Hs, Hr, Hout, HO⟩
  iapply (wp_wand_r _ _ _ (Q := fun _ => iprop(semVal (exitCell c) 0 ∗ ow (F := F) c 0)))
  isplitl [Hexit Hh1 HO]
  · iapply (run_exit m K c)
    isplitr; · iexact HK
    isplitl [Hexit]; · iexact Hexit
    isplitl [Hh1]; · iexact Hh1
    iexact HO
  iintro %a ⟨Hz1, HO⟩
  isplitl [Hz0]; · iexact Hz0
  isplitl [Hz1]; · iexact Hz1
  isplitl [Hs]; · iexact Hs
  isplitl [Hr]; · iexact Hr
  isplitl [Hx]; · iexact Hx
  isplitl [Hw]; · iexact Hw
  isplitl [Hp]; · iexact Hp
  isplitl [Hst]; · iexact Hst
  isplitl [Hout]; · iexact Hout
  iexact HO

end Cert.AllToAllGelu

end
-- ==== Proof.Parts.lean ====
/-
# The buffers whole, and slot by slot

The launch hands over every buffer whole; the schedule holds the slots of the three rings apart, and the columns of
`w_mat` a fetch at a time.
-/
module

public import proofs.«01_k».proof.Proof.Whole
public import Idealize.ShloMosaic.Lib.Ring
public import Idealize.ShloMosaic.Lib.ValueIdxCore

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (c : Dev nD)

/-! ## The three slots of columns -/

abbrev wBufLoc : Loc nD τ sig := (c : Thread nD τ).loc cc0_scratch1
abbrev sBufLoc : Loc nD τ sig := (c : Thread nD τ).loc cc0_scratch2
abbrev rBufLoc : Loc nD τ sig := (c : Thread nD τ).loc cc0_scratch3
abbrev wLoc : Loc nD τ sig := (c : Thread nD τ).loc main_arg1

def wSlots (k : Fin 3) : Finset (Idx (wBufLoc c)) := (wBufM.access (wRect k)).set
def sSlots (s : Fin 15) : Finset (Idx (sBufLoc c)) := (sBufM.access (bRect s)).set
def rSlots (s : Fin 15) : Finset (Idx (rBufLoc c)) := (rBufM.access (bRect s)).set
def wPlace (t : Fin 16) : Finset (Idx (wLoc c)) := (wColM (colOf t c)).view.set

theorem wSlots_disjoint (k k' : Fin 3) (h : k ≠ k') : Disjoint (wSlots c k) (wSlots c k') :=
  View.disjoint_slice_of_sep _ (wRect k) (wRect k') (0 : Fin 3) rfl rfl (by
    have : k.val ≠ k'.val := fun hh => h (Fin.ext hh)
    show k.val + 1 ≤ k'.val ∨ k'.val + 1 ≤ k.val
    omega)
theorem sSlots_disjoint (s s' : Fin 15) (h : s ≠ s') : Disjoint (sSlots c s) (sSlots c s') :=
  View.disjoint_slice_of_sep _ (bRect s) (bRect s') (0 : Fin 3) rfl rfl (by
    have : s.val ≠ s'.val := fun hh => h (Fin.ext hh)
    show s.val + 1 ≤ s'.val ∨ s'.val + 1 ≤ s.val
    omega)
theorem rSlots_disjoint (s s' : Fin 15) (h : s ≠ s') : Disjoint (rSlots c s) (rSlots c s') :=
  View.disjoint_slice_of_sep _ (bRect s) (bRect s') (0 : Fin 3) rfl rfl (by
    have : s.val ≠ s'.val := fun hh => h (Fin.ext hh)
    show s.val + 1 ≤ s'.val ∨ s'.val + 1 ≤ s.val
    omega)
theorem wPlace_disjoint (t t' : Fin 16) (h : t ≠ t') : Disjoint (wPlace c t) (wPlace c t') :=
  View.disjoint_slice_of_sep _ (wCol (colOf t c)) (wCol (colOf t' c)) (1 : Fin 2) rfl rfl (by
    have : (colOf t c).val ≠ (colOf t' c).val := fun hh => colOf_ne_of_ne c t t' h (Fin.ext hh)
    show 512 * (colOf t c).val + 512 ≤ 512 * (colOf t' c).val ∨ 512 * (colOf t' c).val + 512 ≤ 512 * (colOf t c).val
    omega)

theorem mem_wSlots (k : Fin 3) (i : S3x4096x512.Idx) (h : (i 0).val = k.val) : (i : Idx (wBufLoc c)) ∈ wSlots c k := by
  show i ∈ ((View.whole cc0_scratch1).slice (wRect k)).set
  rw [View.set_slice_whole]
  refine Rect.mem_set_unit.mpr fun a => ?_
  have h1 : (i 1).val < 4096 := (i 1).isLt
  have h2 : (i 2).val < 512 := (i 2).isLt
  fin_cases a
  · exact ⟨Nat.le_of_eq h.symm, Nat.lt_succ_of_le (Nat.le_of_eq h)⟩
  · exact ⟨Nat.zero_le _, by simpa using h1⟩
  · exact ⟨Nat.zero_le _, Nat.lt_of_lt_of_eq h2 (Nat.zero_add 512).symm⟩
theorem mem_sSlots (s : Fin 15) (i : S15x256x512.Idx) (h : (i 0).val = s.val) : (i : Idx (sBufLoc c)) ∈ sSlots c s := by
  show i ∈ ((View.whole cc0_scratch2).slice (bRect s)).set
  rw [View.set_slice_whole]
  refine Rect.mem_set_unit.mpr fun a => ?_
  have h1 : (i 1).val < 256 := (i 1).isLt
  have h2 : (i 2).val < 512 := (i 2).isLt
  fin_cases a
  · exact ⟨Nat.le_of_eq h.symm, Nat.lt_succ_of_le (Nat.le_of_eq h)⟩
  · exact ⟨Nat.zero_le _, by simpa using h1⟩
  · exact ⟨Nat.zero_le _, Nat.lt_of_lt_of_eq h2 (Nat.zero_add 512).symm⟩
theorem mem_wPlace (t : Fin 16) (i : S4096x8192.Idx) (h : (i 1).val / 512 = (colOf t c).val) : (i : Idx (wLoc c)) ∈ wPlace c t := by
  show i ∈ ((View.whole main_arg1).slice (wCol (colOf t c))).set
  rw [View.set_slice_whole]
  refine Rect.mem_set_unit.mpr fun a => ?_
  have h0 : (i 0).val < 4096 := (i 0).isLt
  fin_cases a
  · exact ⟨Nat.zero_le _, by simpa using h0⟩
  · show 512 * (colOf t c).val ≤ (i 1).val ∧ (i 1).val < 512 * (colOf t c).val + 512
    omega

theorem wSlots_cover : Finset.univ.biUnion (wSlots c) = Finset.univ :=
  Finset.eq_univ_of_forall fun i => Finset.mem_biUnion.mpr ⟨(i : S3x4096x512.Idx) 0, Finset.mem_univ _, mem_wSlots c _ i rfl⟩
theorem sSlots_cover : Finset.univ.biUnion (sSlots c) = Finset.univ :=
  Finset.eq_univ_of_forall fun i => Finset.mem_biUnion.mpr ⟨(i : S15x256x512.Idx) 0, Finset.mem_univ _, mem_sSlots c _ i rfl⟩
theorem rSlots_cover : Finset.univ.biUnion (rSlots c) = Finset.univ :=
  Finset.eq_univ_of_forall fun i => Finset.mem_biUnion.mpr ⟨(i : S15x256x512.Idx) 0, Finset.mem_univ _, mem_sSlots c _ i rfl⟩
theorem wPlace_cover : Finset.univ.biUnion (wPlace c) = Finset.univ :=
  Finset.eq_univ_of_forall fun i => by
    have hi : ((i : S4096x8192.Idx) 1).val < 8192 := ((i : S4096x8192.Idx) 1).isLt
    obtain ⟨t, ht⟩ := colOf_cover c ⟨((i : S4096x8192.Idx) 1).val / 512, by show _ < 16; omega⟩
    exact Finset.mem_biUnion.mpr ⟨t, Finset.mem_univ _, mem_wPlace c t i (by rw [ht])⟩

/-! ## Split and joined -/

theorem wPts_eq (t : Fin 16) : wPts m c t = ((wLoc c ↦[wPlace c t]{fullShare} m (wLoc c)) : sProp 𝕄) := by
  unfold wPts wPlace
  have h : ∀ M : Memref sig .tc .hbm S4096x512 .f32, M = wColM (colOf t c) → ∀ f : M.view.ty.Contents (Elt F),
      HEq f (m (wLoc c)) → (M.view.loc (c : Thread nD τ) ↦[M.view.set]{fullShare} f : sProp 𝕄)
        = (wLoc c ↦[(wColM (colOf t c)).view.set]{fullShare} m (wLoc c)) := by
    intro M hM f hf; subst hM; cases hf; rfl
  exact h _ (wSrc_eq c t) _ HEq.rfl

/-- `w_mat` whole is its sixteen blocks of columns. -/
theorem wPts_whole : ((wLoc c ↦{fullShare} m (wLoc c)) : sProp 𝕄) = bigSep Finset.univ (wPts m c) := by
  rw [Ring.pointsTo_blocks (wPlace c) (wPlace_disjoint c) (wPlace_cover c)]
  exact bigSep_congr fun t _ => (wPts_eq m c t).symm

theorem sPart_any (s : Fin 15) (f : (sBufM.view).ty.Contents (Elt F)) : sPart c s f ⊢ (sAny c s : sProp 𝕄) := by
  rw [sPart_eq]; unfold sAny
  iintro H
  iexists _
  iapply (owns_intro (c : Thread nD τ) (sSlot s) fullShare f); iexact H
theorem wPart_some (k : Fin 3) :
    (iprop(∃ X : S4096x512.Idx → Elt F .f32, owns (c : Thread nD τ) (wSlot k) fullShare X) : sProp 𝕄)
      ⊢ iprop(∃ f : (wBufM.view).ty.Contents (Elt F), wPart c k f) := by
  iintro ⟨%X, H⟩
  ihave H := (wPart_open c k X) $$ H
  icases H with ⟨%f, -, H⟩
  iexists f; iexact H
theorem sPart_some (s : Fin 15) : (sAny c s : sProp 𝕄) ⊢ iprop(∃ f : (sBufM.view).ty.Contents (Elt F), sPart c s f) := by
  unfold sAny
  iintro ⟨%X, H⟩
  iapply (sPart_open c s X); iexact H
theorem rPart_some (s : Fin 15) : (rAny c s : sProp 𝕄) ⊢ iprop(∃ f : (rBufM.view).ty.Contents (Elt F), rPart c s f) := by
  unfold rAny
  iintro ⟨%X, H⟩
  ihave H := (rPart_open c s X) $$ H
  icases H with ⟨%f, -, H⟩
  iexists f; iexact H

/-- The three slots of columns, apart. -/
def wSome (k : Fin 3) : sProp 𝕄 := iprop(∃ X : S4096x512.Idx → Elt F .f32, owns (c : Thread nD τ) (wSlot k) fullShare X)

theorem wBuf_split (f : Buf (Elt F) (wBufLoc c)) : ((wBufLoc c ↦{fullShare} f) : sProp 𝕄) ⊢ bigSep Finset.univ (wSome (F := F) c) := by
  rw [Ring.pointsTo_blocks (wSlots c) (wSlots_disjoint c) (wSlots_cover c)]
  exact bigSep_mono fun k _ => wPart_close c k f
theorem sBuf_split (f : Buf (Elt F) (sBufLoc c)) : ((sBufLoc c ↦{fullShare} f) : sProp 𝕄) ⊢ bigSep Finset.univ (sAny (F := F) c) := by
  rw [Ring.pointsTo_blocks (sSlots c) (sSlots_disjoint c) (sSlots_cover c)]
  exact bigSep_mono fun s _ => sPart_any c s f
theorem rBuf_split (f : Buf (Elt F) (rBufLoc c)) : ((rBufLoc c ↦{fullShare} f) : sProp 𝕄) ⊢ bigSep Finset.univ (rAny (F := F) c) := by
  rw [Ring.pointsTo_blocks (rSlots c) (rSlots_disjoint c) (rSlots_cover c)]
  exact bigSep_mono fun s _ => rPart_close c s f

theorem wBuf_join (f₀ : Buf (Elt F) (wBufLoc c)) :
    bigSep Finset.univ (wSome (F := F) c) ⊢ iprop(∃ f : Buf (Elt F) (wBufLoc c), wBufLoc c ↦{fullShare} f) :=
  BI.Entails.trans (bigSep_mono fun k _ => wPart_some c k)
    (Ring.pointsTo_blocks_join_exists (wSlots c) (wSlots_disjoint c) (wSlots_cover c) f₀)
theorem sBuf_join (f₀ : Buf (Elt F) (sBufLoc c)) :
    bigSep Finset.univ (sAny (F := F) c) ⊢ iprop(∃ f : Buf (Elt F) (sBufLoc c), sBufLoc c ↦{fullShare} f) :=
  BI.Entails.trans (bigSep_mono fun s _ => sPart_some c s)
    (Ring.pointsTo_blocks_join_exists (sSlots c) (sSlots_disjoint c) (sSlots_cover c) f₀)
theorem rBuf_join (f₀ : Buf (Elt F) (rBufLoc c)) :
    bigSep Finset.univ (rAny (F := F) c) ⊢ iprop(∃ f : Buf (Elt F) (rBufLoc c), rBufLoc c ↦{fullShare} f) :=
  BI.Entails.trans (bigSep_mono fun s _ => rPart_some c s)
    (Ring.pointsTo_blocks_join_exists (rSlots c) (rSlots_disjoint c) (rSlots_cover c) f₀)

/-! ## The result, row block by row block -/

/-- The result of device `c`: each device's rows in place. -/
def outAt : OutBuf F := fun i => rowsOf m c ⟨((i : S4096x512.Idx) 0).val / 256, by
    have : ((i : S4096x512.Idx) 0).val < 4096 := ((i : S4096x512.Idx) 0).isLt
    show _ < 16; omega⟩
  (ValueIdx.ix2 ⟨((i : S4096x512.Idx) 0).val % 256, Nat.mod_lt _ (by decide)⟩ ((i : S4096x512.Idx) 1))

theorem outAt_eq (f : OutBuf F) (hf : ∀ d, getRow d f = rowsOf m c d) : f = outAt m c := by
  funext i
  unfold outAt
  rw [← hf]
  show f i = f _
  congr 1
  funext a
  refine Fin.ext ?_
  fin_cases a
  · show _ = 256 * (((i : S4096x512.Idx) 0).val / 256) + 1 * (((i : S4096x512.Idx) 0).val % 256)
    have : ((i : S4096x512.Idx) 0).val = 256 * (((i : S4096x512.Idx) 0).val / 256) + 1 * (((i : S4096x512.Idx) 0).val % 256) := by omega
    exact this
  · show _ = 0 + 1 * ((i : S4096x512.Idx) 1).val
    have : ((i : S4096x512.Idx) 1).val = 0 + 1 * ((i : S4096x512.Idx) 1).val := by omega
    exact this

theorem outInv_all : outInv m c 15 ⊢ outPts c (outAt m c) := by
  unfold outInv
  iintro ⟨%f, %hf, H⟩
  rw [← outAt_eq m c f fun d => hf d (done_all c d)]
  iexact H

end Cert.AllToAllGelu

end
-- ==== Proof.Body.lean ====
/-
# One run of the body, from what the launch gives

The launch gives a device its share of the tokens, positions and credits, its semaphores at zero and its buffers whole;
the body ends with every semaphore at zero again and the result in place.
-/
module

public import proofs.«01_k».proof.Proof.Parts
public import proofs.«01_k».proof.Proof.Gen.KernelIdeal.Launch
public import Idealize.ShloMosaic.Lib.Pipeline.Value

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Kix → ℕ) (c : Dev nD)

/-! ## The kernel's own semaphores -/

/-- The last member of the send and of the receive semaphores, which no step uses. -/
def spareSem : Fin 2 → DmaSem sig :=
  ![((cc0_scratch5.slice (Rect.unit (s := S16) ![15] S1.size (by decide))).squeeze S_ squeezes_S1_S_).sem,
    ((cc0_scratch6.slice (Rect.unit (s := S16) ![15] S1.size (by decide))).squeeze S_ squeezes_S1_S_).sem]

abbrev Own : Type := Fin 1 ⊕ ((Fin 15 ⊕ Fin 15) ⊕ (Fin 3 ⊕ Fin 2))
def osem : Own → SemLoc sig
  | .inl _ => csem (.inl 1)
  | .inr (.inl k) => csem (.inr k)
  | .inr (.inr (.inl k)) => .dma (copySem k)
  | .inr (.inr (.inr k)) => .dma (spareSem k)

theorem ownSemFacts : Pipeline.OwnSemFacts cfg0.spec osem :=
  ⟨by decide +kernel, (by decide +kernel : ∀ a b : Own, osem a = osem b → a = b), by decide +kernel⟩

def copyZero (k : Fin 3) : sProp 𝕄 := semVal ((c : Thread nD τ), .dma (copySem k)) 0
def spareZero (k : Fin 2) : sProp 𝕄 := semVal ((c : Thread nD τ), .dma (spareSem k)) 0
def xferZero (k : Fin 15 ⊕ Fin 15) : sProp 𝕄 := semVal (kcell (c, .inr k)) 0

theorem ownSems0_eq :
    (Pipeline.ownSems0 (Ix := Unit) (Name := ℕ) (U := UU) (Lvl := ℕ) (Val := Elt F) (τ := τ) osem c : sProp 𝕄)
      = iprop(semVal (exitCell c) 0 ∗ bigSep Finset.univ (xferZero (F := F) c) ∗ bigSep Finset.univ (copyZero (F := F) c) ∗ bigSep Finset.univ (spareZero (F := F) c)) := by
  unfold Pipeline.ownSems0
  rw [bigSep_univ_sum, bigSep_univ_sum (α := Fin 15 ⊕ Fin 15), bigSep_univ_sum (α := Fin 3), bigSep_univ_of_subsingleton (0 : Fin 1)]
  rfl
theorem unscopedSems0_eq : (unscopedSems0 c : sProp 𝕄) = semVal (barCell c) 0 := by
  unfold unscopedSems0; rw [bigSep_eq_bigSepL_of_eq [SemLoc.reg barSem] (by decide +kernel) (by decide)]; rfl

/-! ## What the device starts from -/

/-- The rights to pay that a device holds, and its places at its own cells. -/
def barTok (i : Fin 15) : sProp 𝕄 := dutyTok ER (barCell (src (stepOf i) c)) 0 (stepOf i)
def xferTok (s : Fin 15) : sProp 𝕄 := iprop(dutyTok ER (sendCell c s) 0 0 ∗ dutyTok ER (recvCell (peer s c) s) 0 0)
def place (k : Kix) : sProp 𝕄 := atPos ER (kcell (c, k)) 0 ∅ 0
def recvCred (s : Fin 15) : sProp 𝕄 := cred (tallyAt (recvCell c s) () N)
def linear : sProp 𝕄 :=
  iprop(bigSep Finset.univ (barTok (F := F) c) ∗ bigSep Finset.univ (exitIn (F := F) c) ∗ bigSep Finset.univ (xferTok (F := F) c) ∗ bigSep Finset.univ (place (F := F) c))
def idle : sProp 𝕄 := iprop(bigSep Finset.univ (copyZero (F := F) c) ∗ bigSep Finset.univ (spareZero (F := F) c))
def credits : sProp 𝕄 :=
  iprop(cred (tallyAt (barCell c) () 15) ∗ cred (tallyAt (exitCell c) () 15) ∗ bigSep Finset.univ (recvCred (F := F) c))
/-- What the launch's global step makes of the ghost state: the records, the device's share, its remaining semaphores. -/
def G' : sProp 𝕄 := iprop((∃ K, records m K) ∗ linear c ∗ idle c)
def wWhole : sProp 𝕄 := wLoc c ↦{fullShare} m (wLoc c)
def start : sProp 𝕄 := iprop(G' m c ∗ credits c ∗ levAts L lv ∗ wWhole m c)

def someBuf (b : Ref sig .tc) : sProp 𝕄 :=
  iprop(∃ f : Buf (Elt F) ((c : Thread nD τ).loc b), ((c : Thread nD τ).loc b) ↦{fullShare} f)
def scratch : sProp 𝕄 :=
  iprop(someBuf (F := F) c cc0_scratch0 ∗ someBuf (F := F) c cc0_scratch1 ∗ someBuf (F := F) c cc0_scratch2 ∗ someBuf (F := F) c cc0_scratch3)

def Φ₀ : sProp 𝕄 := iprop(start m c ∗ scratch (F := F) c)
def Φ₁ : sProp 𝕄 :=
  iprop((semVal (barCell c) 0 ∗ wWhole m c)
    ∗ (semVal (exitCell c) 0 ∗ bigSep Finset.univ (xferZero (F := F) c) ∗ bigSep Finset.univ (copyZero (F := F) c) ∗ bigSep Finset.univ (spareZero (F := F) c))
    ∗ scratch (F := F) c)

/-! ## Into and out of the body's own form -/

theorem bigSep_kix (Φ : Kix → sProp 𝕄) :
    bigSep Finset.univ Φ = iprop((Φ (.inl 0) ∗ Φ (.inl 1)) ∗ (bigSep Finset.univ fun s => Φ (.inr (.inl s))) ∗ bigSep Finset.univ fun s => Φ (.inr (.inr s))) := by
  rw [bigSep_univ_sum, bigSep_univ_sum, show bigSep (Finset.univ : Finset (Fin 2)) (fun i => Φ (.inl i)) = _ from
    bigSep_univ_eq_bigSepL [0, 1] (by decide) (by decide) _]
  rfl
theorem bigSep_three (Φ : Fin 3 → sProp 𝕄) : bigSep Finset.univ Φ = iprop(Φ 0 ∗ Φ 1 ∗ Φ 2) :=
  bigSep_univ_eq_bigSepL [0, 1, 2] (by decide) (by decide) Φ

theorem place_eq : bigSep Finset.univ (place (F := F) c)
    = iprop((atPos ER (barCell c) 0 ∅ 0 ∗ atPos ER (exitCell c) 0 ∅ 0) ∗ bigSep Finset.univ (sendAt (F := F) c) ∗ bigSep Finset.univ fun s => place (F := F) c (.inr (.inr s))) :=
  bigSep_kix _
theorem xferZero_eq : bigSep Finset.univ (xferZero (F := F) c)
    = iprop((bigSep Finset.univ fun s => xferZero (F := F) c (.inl s)) ∗ bigSep Finset.univ fun s => xferZero (F := F) c (.inr s)) := by
  rw [bigSep_univ_sum]; rfl

theorem wIdle_eq : wIdle (F := F) c = iprop(bigSep Finset.univ (wSome (F := F) c) ∗ bigSep Finset.univ (copyZero (F := F) c)) := by
  rw [← bigSep_sep', bigSep_three]; rfl
theorem barIn_eq : bigSep Finset.univ (barIn (F := F) c) = iprop(bigSep Finset.univ (barTok (F := F) c) ∗ bigSep Finset.univ (rAny (F := F) c)) := by
  rw [bigSep_univ_equiv stepEquiv (rAny (F := F) c), ← bigSep_sep']; rfl
theorem sendable_eq : bigSep Finset.univ (sendable (F := F) c) = iprop(bigSep Finset.univ (sAny (F := F) c) ∗ bigSep Finset.univ (xferTok (F := F) c)) := by
  rw [← bigSep_sep']; rfl
theorem recvIn_eq : bigSep Finset.univ (recvIn (F := F) c) = iprop(bigSep Finset.univ (recvCred (F := F) c) ∗ bigSep Finset.univ fun s => place (F := F) c (.inr (.inr s))) := by
  rw [← bigSep_sep']; rfl
theorem sendOut_eq : bigSep Finset.univ (sendOut (F := F) c) = iprop(bigSep Finset.univ (sAny (F := F) c) ∗ bigSep Finset.univ fun s => xferZero (F := F) c (.inl s)) := by
  rw [← bigSep_sep']; rfl
theorem recvOut_eq : bigSep Finset.univ (recvOut (F := F) c) = iprop(bigSep Finset.univ (rAny (F := F) c) ∗ bigSep Finset.univ fun s => xferZero (F := F) c (.inr s)) := by
  rw [← bigSep_sep']; rfl

theorem before_intro :
    iprop(linear (F := F) c ∗ idle (F := F) c ∗ credits (F := F) c ∗ wWhole m c ∗ scratch (F := F) c ∗ xStPts m c ∗ (∃ f : OutBuf F, outPts c f) ∗ ow (F := F) c (O₀ c))
      ⊢ iprop(before m c ∗ bigSep Finset.univ (spareZero (F := F) c)) := by
  unfold linear idle credits scratch someBuf before handle wWhole
  rw [place_eq, wIdle_eq, barIn_eq, sendable_eq, recvIn_eq, wPts_whole]
  iintro ⟨⟨Hbt, He, Hxt, ⟨Hpb, Hpe⟩, Hps, Hpr⟩, ⟨Hcz, Hsp⟩, ⟨Hcb, Hce, Hcr⟩, Hw, ⟨H0, ⟨%f1, H1⟩, ⟨%f2, H2⟩, ⟨%f3, H3⟩⟩, Hx, Ho, HO⟩
  ihave H1 := (wBuf_split (F := F) c f1) $$ H1
  ihave H2 := (sBuf_split (F := F) c f2) $$ H2
  ihave H3 := (rBuf_split (F := F) c f3) $$ H3
  isplitr [Hsp]
  rotate_left
  · iexact Hsp
  isplitl [Hbt H3]
  · isplitl [Hbt]; · iexact Hbt
    iexact H3
  isplitl [Hcb Hpb]
  · isplitl [Hcb]; · iexact Hcb
    iexact Hpb
  isplitl [He]; · iexact He
  isplitl [Hce Hpe]
  · isplitl [Hce]; · iexact Hce
    iexact Hpe
  isplitl [H2 Hxt]
  · isplitl [H2]; · iexact H2
    iexact Hxt
  isplitl [Hps]; · iexact Hps
  isplitl [Hcr Hpr]
  · isplitl [Hcr]; · iexact Hcr
    iexact Hpr
  isplitl [H0]; · iexact H0
  isplitl [H1 Hcz]
  · isplitl [H1]; · iexact H1
    iexact Hcz
  isplitl [Hw]; · iexact Hw
  isplitl [Hx]; · iexact Hx
  isplitl [Ho]; · iexact Ho
  iexact HO

theorem after_elim (f₁ : Buf (Elt F) (wBufLoc c)) (f₂ : Buf (Elt F) (sBufLoc c)) (f₃ : Buf (Elt F) (rBufLoc c)) :
    iprop(after m c ∗ bigSep Finset.univ (spareZero (F := F) c))
      ⊢ iprop(Φ₁ m c ∗ xStPts m c ∗ outPts c (outAt m c) ∗ ow (F := F) c 0) := by
  unfold after Φ₁ scratch someBuf wWhole
  rw [wIdle_eq, sendOut_eq, recvOut_eq, wPts_whole, xferZero_eq]
  unfold xPts
  iintro ⟨⟨Hzb, Hze, ⟨Hs, Hzs⟩, ⟨Hr, Hzr⟩, Hx, ⟨Hw, Hzc⟩, Hwp, Hxs, Ho, HO⟩, Hsp⟩
  ihave Hw := (wBuf_join (F := F) c f₁) $$ Hw
  ihave Hs := (sBuf_join (F := F) c f₂) $$ Hs
  ihave Hr := (rBuf_join (F := F) c f₃) $$ Hr
  ihave Ho := (outInv_all m c) $$ Ho
  isplitr [Hxs Ho HO]
  · isplitl [Hzb Hwp]
    · isplitl [Hzb]; · iexact Hzb
      iexact Hwp
    isplitl [Hze Hzs Hzr Hzc Hsp]
    · isplitl [Hze]; · iexact Hze
      isplitl [Hzs Hzr]
      · isplitl [Hzs]; · iexact Hzs
        iexact Hzr
      isplitl [Hzc]; · iexact Hzc
      iexact Hsp
    isplitl [Hx]; · iexists _; iexact Hx
    isplitl [Hw]; · iexact Hw
    isplitl [Hs]; · iexact Hs
    iexact Hr
  isplitl [Hxs]; · iexact Hxs
  isplitl [Ho]; · iexact Ho
  iexact HO

end Cert.AllToAllGelu

end
-- ==== Proof.Oblige.lean ====
/-
# The body's obligation to the pipeline
-/
module

public import proofs.«01_k».proof.Proof.Body

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Pipeline

variable {F : FTy → Type} [FloatOps F]

local notation "𝕄" => MT nD τ sig Unit (Elt F) ℕ UU ℕ

variable (m : (ℓ : Loc nD τ sig) → Buf (Elt F) ℓ) (c : Dev nD)

/-- The pipeline's proof data: one point, the rows of `x` staged in, the result staged out. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () (Fin.castSucc t0_0)
    ∗ (∃ d, stg c cc0_stg0_0 ((dats m 0 c).before (0 : Fin 2) t0_0 d))
    ∗ (∃ d, stg c cc0_stg1_0 ((dats m 0 c).before (1 : Fin 2) t0_0 d)))
def bodyPost : sProp 𝕄 :=
  iprop(Φ₁ m c ∗ (dats m 0 c).owesAt () (Fin.succ t0_0) ∗ stg c cc0_stg0_0 (xstg m c) ∗ stg c cc0_stg1_0 (outAt m c))

/-- The body run from what the launch gives. -/
theorem run_body (f₁ : Buf (Elt F) (wBufLoc c)) (f₂ : Buf (Elt F) (sBufLoc c)) (f₃ : Buf (Elt F) (rBufLoc c)) :
    iprop(start m c ∗ scratch (F := F) c ∗ xStPts m c ∗ (∃ f : OutBuf F, outPts c f) ∗ ow (F := F) c (O₀ c))
      ⊢ run c (body xSt outM) fun _ => iprop(Φ₁ m c ∗ xStPts m c ∗ outPts c (outAt m c) ∗ ow (F := F) c 0) := by
  unfold run body start G'
  simp only [Prog.lift, Prog.bind_op, Prog.bind_ret, wp_deviceId]
  iintro ⟨⟨⟨⟨%K, #HR⟩, Hl, Hi⟩, Hc, #HL, Hw⟩, Hs, Hx, Ho, HO⟩
  ihave Hb := (before_intro (F := F) m c) $$ [Hl Hi Hc Hw Hs Hx Ho HO]
  · isplitl [Hl]; · iexact Hl
    isplitl [Hi]; · iexact Hi
    isplitl [Hc]; · iexact Hc
    isplitl [Hw]; · iexact Hw
    isplitl [Hs]; · iexact Hs
    isplitl [Hx]; · iexact Hx
    isplitl [Ho]; · iexact Ho
    iexact HO
  icases Hb with ⟨Hb, Hsp⟩
  iapply (wp_wand_r _ _ _ (Q := fun _ => after m c))
  isplitl [Hb]
  · iapply (run_rest m K c)
    isplitr
    · unfold know
      isplitr; · iexact HR
      iexact HL
    iexact Hb
  · iintro %a Ha
    iapply (after_elim (F := F) m c f₁ f₂ f₃)
    isplitl [Ha]; · iexact Ha
    iexact Hsp

theorem sound_body : bodyPre m c ⊢ run c (body xSt outM) fun _ => bodyPost m c := by
  unfold bodyPre Φ₀ scratch someBuf
  iintro ⟨⟨Hst, H0, ⟨%f1, H1⟩, ⟨%f2, H2⟩, ⟨%f3, H3⟩⟩, Ho, ⟨%d0, %g0, %hg0, Hx⟩, ⟨%d1, %g1, %hg1, Hout⟩⟩
  have hx : g0 = xstg m c := by rw [hg0]; unfold Dat.before; rw [if_pos (fetch_0 t0_0)]; rfl
  subst hx
  unfold Dat.owesAt Pipeline.owesWithin
  icases Ho with ⟨%W, %hW, HO⟩
  rw [show (dats m 0 c).owed (Fin.castSucc t0_0) = O₀ c from rfl]
  iapply (wp_wand_r _ _ _ (Q := fun _ => iprop(Φ₁ m c ∗ xStPts m c ∗ outPts c (outAt m c) ∗ ow (F := F) c 0)))
  isplitl
  · iapply (run_body m c f1 f2 f3)
    isplitl [Hst]; · iexact Hst
    isplitl [H0 H1 H2 H3]
    · unfold scratch someBuf
      isplitl [H0]; · iexact H0
      isplitl [H1]; · iexists _; iexact H1
      isplitl [H2]; · iexists _; iexact H2
      iexists _; iexact H3
    isplitl [Hx]; · unfold xStPts; iexact Hx
    isplitl [Hout]
    · iexists g1; unfold outPts; iexact Hout
    unfold ow; iexists W; iexact HO
  · iintro %a
    unfold bodyPost xStPts outPts ow Dat.owesAt Pipeline.owesWithin
    rw [show (dats m 0 c).owed (Fin.succ t0_0) = 0 from rfl]
    iintro ⟨HΦ, Hx, Ho, ⟨%W', HO⟩⟩
    isplitl [HΦ]; · iexact HΦ
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Ho

/-- The library's obligation. -/
theorem body_obligation : BodyObligation (dats (F := F) m 0 c) (defs₀ (F := F)) 𝒱₀ () Set.univ := fun t => by
  have e : t = t0_0 := fin_N0 t
  subst e
  rw [bigSep_W0, bigSep_W0]
  simp only [owns_whole_eq]
  show bodyPre m c ⊢ run c (bodyAt0 (F := F) t0_0) (fun _ => bodyPost m c)
  rw [body_eq]
  exact sound_body m c

end Cert.AllToAllGelu

end
-- ==== Proof.Deal.lean ====
/-
# The tokens minted and dealt

Every cell's tokens are minted at the device that has the cell; each goes to the device that pays it.
-/
module

public import proofs.«01_k».proof.Proof.Body

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Kix → ℕ) (c : Dev nD)

def ringCells : Finset (GSem nD τ sig) := Finset.univ.map ⟨kcell, kcell_injective⟩

/-- The duties of one device's cells: its two handshakes' fifteen each, its send cells', its receive cells'. -/
abbrev Tix : Type := (Fin 15 ⊕ Fin 15) ⊕ (Fin 15 ⊕ Fin 15)
def dutyAt : Tix → Kix × Fin 15
  | .inl (.inl d) => (.inl 0, d)
  | .inl (.inr d) => (.inl 1, d)
  | .inr k => (.inr k, 0)
theorem dutyAt_injective : Function.Injective dutyAt := by
  have h : ∀ a b : Tix, dutyAt a = dutyAt b → a = b := by decide +kernel
  exact fun a b => h a b
def tokOf (x : Dev nD × Tix) : GSem nD τ sig × ℕ × Fin 15 := (kcell (x.1, (dutyAt x.2).1), 0, (dutyAt x.2).2)
theorem tokOf_injective : Function.Injective tokOf := by
  rintro ⟨c, j⟩ ⟨c', j'⟩ h
  have h1 := kcell_injective (congrArg Prod.fst h)
  have h2 : (dutyAt j).2 = (dutyAt j').2 := congrArg (fun x : GSem nD τ sig × ℕ × Fin 15 => x.2.2) h
  have h3 : c = c' := congrArg Prod.fst h1
  have h4 : (dutyAt j).1 = (dutyAt j').1 := congrArg Prod.snd h1
  rw [h3, dutyAt_injective (Prod.ext h4 h2)]
def ringToks : Finset (GSem nD τ sig × ℕ × Fin 15) := Finset.univ.map ⟨tokOf, tokOf_injective⟩

def u₀ : UU :=
  (initOf (Pipeline.cells cfgs cellOf_inj) (Pipeline.launchToks cfgs cellOf_inj), (initOf ringCells ringToks, 1))

theorem u₀_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

def tok (x : Dev nD × Tix) : sProp 𝕄 := dutyTok ER (kcell (x.1, (dutyAt x.2).1)) 0 (dutyAt x.2).2
def toks : sProp 𝕄 := bigSep Finset.univ fun j : Tix => tok (F := F) (c, j)
def placed (k : Kix) : sProp 𝕄 := iprop(place (F := F) c k ∗ reached ER (kcell (c, k)) 0)
def G : sProp 𝕄 :=
  iprop((bigSep Finset.univ fun k : Kix => roundState ER (Rd m) (kcell (c, k)) 0) ∗ bigSep Finset.univ (placed (F := F) c) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kix => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G placed place; simp only [bigSep_sep']
  isplitl [Hst']; · iexact Hst'
  isplitl [Hat' Hr']
  · isplitl [Hat'] <;> iassumption
  iexact Htok'

/-! ## The cells' invariants made -/

theorem sems0_eq :
    iprop(Pipeline.ownSems0 (Ix := Unit) (Name := ℕ) (U := UU) (Lvl := ℕ) (Val := Elt F) (τ := τ) osem c ∗ unscopedSems0 c)
      ⊢ (iprop((bigSep Finset.univ fun k : Kix => semVal (kcell (c, k)) 0) ∗ idle (F := F) c) : sProp 𝕄) := by
  have hk : (bigSep Finset.univ fun k : Kix => (semVal (kcell (c, k)) 0 : sProp 𝕄))
      = iprop((semVal (barCell c) 0 ∗ semVal (exitCell c) 0) ∗ bigSep Finset.univ (xferZero (F := F) c)) := by
    rw [bigSep_kix, xferZero_eq]; rfl
  rw [ownSems0_eq, unscopedSems0_eq, hk]; unfold idle
  iintro ⟨⟨He, Hx, Hcz, Hsp⟩, HB⟩
  isplitl [HB He Hx]
  · isplitl [HB He]
    · isplitl [HB] <;> iassumption
    iexact Hx
  isplitl [Hcz] <;> iassumption

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ bigSep Finset.univ (placed (F := F) c) ∗ toks (F := F) c ∗ idle (F := F) c) := by
  unfold G
  iintro ⟨Hos, Hus, Hst, Hat, Htok⟩
  ihave Hv := (sems0_eq (F := F) c) $$ [Hos Hus]
  · isplitl [Hos] <;> iassumption
  icases Hv with ⟨Hv, Hid⟩
  imod (show iprop((bigSep Finset.univ fun k : Kix => semVal (kcell (c, k)) 0) ∗ bigSep Finset.univ fun k : Kix => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hid

/-! ## The tokens dealt -/

/-- Which duty of which device's handshake the `i`-th signal of a device pays. -/
def dealHand : Dev nD × Fin 15 ≃ Dev nD × Fin 15 where
  toFun x := (src (stepOf x.2) x.1, stepOf x.2)
  invFun x := (peer x.2 x.1, sigOf x.2)
  left_inv x := Prod.ext (peer_src _ _) (sigOf_stepOf _)
  right_inv x := Prod.ext (by show src (stepOf (sigOf x.2)) (peer x.2 x.1) = x.1; rw [stepOf_sigOf, src_peer]) (stepOf_sigOf _)
/-- Which device's receive slot a transfer of a device pays. -/
def dealRecv : Dev nD × Fin 15 ≃ Dev nD × Fin 15 where
  toFun x := (peer x.2 x.1, x.2)
  invFun x := (src x.2 x.1, x.2)
  left_inv x := Prod.ext (src_peer _ _) rfl
  right_inv x := Prod.ext (peer_src _ _) rfl

theorem deal (e : Dev nD × Fin 15 ≃ Dev nD × Fin 15) (T : Dev nD × Fin 15 → sProp 𝕄) :
    (bigSep Finset.univ fun c : Dev nD => bigSep Finset.univ fun d : Fin 15 => T (c, d))
      = bigSep Finset.univ fun c : Dev nD => bigSep Finset.univ fun i : Fin 15 => T (e (c, i)) := by
  rw [← bigSep_univ_prod T, bigSep_univ_equiv e T, bigSep_univ_prod]

/-- The tokens of the duties device `c` pays. -/
def payToks : sProp 𝕄 :=
  iprop(bigSep Finset.univ (barTok (F := F) c) ∗ bigSep Finset.univ (exitIn (F := F) c) ∗ bigSep Finset.univ (xferTok (F := F) c))

theorem toks_eq : toks (F := F) c
    = iprop(((bigSep Finset.univ fun d : Fin 15 => dutyTok ER (barCell c) 0 d) ∗ bigSep Finset.univ fun d : Fin 15 => dutyTok ER (exitCell c) 0 d)
        ∗ (bigSep Finset.univ fun s : Fin 15 => dutyTok ER (sendCell c s) 0 0) ∗ bigSep Finset.univ fun s : Fin 15 => dutyTok ER (recvCell c s) 0 0) := by
  unfold toks; rw [bigSep_univ_sum, bigSep_univ_sum, bigSep_univ_sum]; rfl

theorem xferTok_eq : bigSep Finset.univ (xferTok (F := F) c)
    = iprop((bigSep Finset.univ fun s : Fin 15 => dutyTok ER (sendCell c s) 0 0) ∗ bigSep Finset.univ fun s : Fin 15 => dutyTok ER (recvCell (peer s c) s) 0 0) := by
  unfold xferTok; rw [bigSep_sep']

theorem toks_around : (bigSep Finset.univ fun c : Dev nD => (toks c : sProp 𝕄)) ⊢ bigSep Finset.univ fun c : Dev nD => payToks c := by
  have h1 := deal (F := F) dealHand fun x => dutyTok ER (barCell x.1) 0 x.2
  have h2 := deal (F := F) dealHand fun x => dutyTok ER (exitCell x.1) 0 x.2
  have h3 := deal (F := F) dealRecv fun x => dutyTok ER (recvCell x.1 x.2) 0 0
  simp only [toks_eq, payToks, xferTok_eq, bigSep_sep']
  rw [h1, h2, h3]
  iintro ⟨⟨H1, H2⟩, H3, H4⟩
  isplitl [H1]; · iexact H1
  isplitl [H2]; · iexact H2
  isplitl [H3]; · iexact H3
  iexact H4

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro : iprop(records m K ∗ bigSep Finset.univ (place (F := F) c) ∗ payToks (F := F) c ∗ idle (F := F) c) ⊢ G' m c := by
  unfold payToks G' linear
  iintro ⟨HR, Hp, ⟨Hb, He, Hx⟩, Hi⟩
  isplitl [HR]; · iexists K; iexact HR
  isplitr [Hi]
  rotate_left
  · iexact Hi
  isplitl [Hb]; · iexact Hb
  isplitl [He]; · iexact He
  isplitl [Hx]; · iexact Hx
  iexact Hp

theorem regroup :
    (bigSep Finset.univ fun c : Dev nD => iprop((bigSep Finset.univ fun k => iprop(∃ κ : ℕ, cellInv ER (Rd m) κ (kcell (c, k))))
          ∗ bigSep Finset.univ (placed (F := F) c) ∗ toks (F := F) c ∗ idle (F := F) c) : sProp 𝕄)
      ⊢ bigSep Finset.univ (G' m) := by
  have hp (c : Dev nD) : bigSep Finset.univ (placed (F := F) c)
      = iprop(bigSep Finset.univ (place (F := F) c) ∗ bigSep Finset.univ fun k : Kix => (reached ER (kcell (c, k)) 0 : sProp 𝕄)) := by
    unfold placed; rw [bigSep_sep']
  simp only [hp]
  simp only [bigSep_sep']
  rw [← bigSep_univ_prod (fun ck : Dev nD × Kix => iprop(∃ κ : ℕ, cellInv ER (Rd m) κ (kcell ck))),
    ← bigSep_univ_prod (fun ck : Dev nD × Kix => (reached ER (kcell ck) 0 : sProp 𝕄))]
  iintro ⟨HI, ⟨Hat, #HR⟩, Htok, Hid⟩
  ihave HK := (BI.bigSep_exists_pi Finset.univ (fun (ck : Dev nD × Kix) (κ : ℕ) => (cellInv ER (Rd m) κ (kcell ck) : sProp 𝕄))) $$ HI
  icases HK with ⟨%K, #HI⟩
  ihave Htk := (toks_around (F := F)) $$ Htok
  iapply (with_persistent (R := records m K) (Φ := fun c => iprop(bigSep Finset.univ (place (F := F) c) ∗ payToks (F := F) c ∗ idle (F := F) c)) fun c _ => G'_intro m K c)
  isplitr
  · unfold records; isplitl; · iexact HI
    iexact HR
  simp only [bigSep_sep']
  isplitl [Hat]; · iexact Hat
  isplitl [Htk]; · iexact Htk
  iexact Hid

/-- The launch's global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.AllToAllGelu

end
-- ==== Proof.Credits.lean ====
/-
# The credits of the launch

What all devices together owe a cell is what the cell's own device waits for.
-/
module

public import proofs.«01_k».proof.Proof.Body

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (c : Dev nD)

/-- How often a cell is paid, over all devices, by the receives, the entry signals, the exit signals. -/
def paidBy (p : Dev nD → Fin 15 → Dev nD × Kix) (x : Dev nD × Kix) : ℕ := ∑ d, ∑ s, if x = p d s then 1 else 0
def recvTo (d : Dev nD) (s : Fin 15) : Dev nD × Kix := (peer s d, .inr (.inr s))
def barTo (d : Dev nD) (s : Fin 15) : Dev nD × Kix := (src (stepOf s) d, .inl 0)
def exitTo (d : Dev nD) (s : Fin 15) : Dev nD × Kix := (src (stepOf s) d, .inl 1)

theorem paid_none (p : Dev nD → Fin 15 → Dev nD × Kix) (x : Dev nD × Kix) (h : ∀ d s, x.2 ≠ (p d s).2) : paidBy p x = 0 :=
  Finset.sum_eq_zero fun d _ => Finset.sum_eq_zero fun s _ => if_neg fun hh => h d s (congrArg Prod.snd hh)
theorem paid_recv_hand (c : Dev nD) (i : Fin 2) : paidBy recvTo (c, .inl i) = 0 := paid_none _ _ fun _ _ h => Sum.inl_ne_inr h
theorem paid_bar_hand : ∀ (c : Dev nD) (i : Fin 2), paidBy barTo (c, .inl i) = if i = 0 then 15 else 0 := by decide +kernel
theorem paid_exit_hand : ∀ (c : Dev nD) (i : Fin 2), paidBy exitTo (c, .inl i) = if i = 1 then 15 else 0 := by decide +kernel
theorem paid_recv_recv : ∀ (c : Dev nD) (s : Fin 15), paidBy recvTo (c, .inr (.inr s)) = 1 := by decide +kernel
theorem paid_bar_recv (c : Dev nD) (s : Fin 15) : paidBy barTo (c, .inr (.inr s)) = 0 := paid_none _ _ fun _ _ h => Sum.inr_ne_inl h
theorem paid_exit_recv (c : Dev nD) (s : Fin 15) : paidBy exitTo (c, .inr (.inr s)) = 0 := paid_none _ _ fun _ _ h => Sum.inr_ne_inl h

theorem tally_kcell (x y : Dev nD × Kix) (n : ℕ) : (tallyAt (kcell y) () n : Tallies) (kcell x) () = if x = y then n else 0 := by
  rw [tallyAt_apply]
  by_cases h : x = y
  · rw [if_pos ⟨congrArg kcell h, rfl⟩, if_pos h]
  · rw [if_neg fun hh => h (kcell_injective hh.1), if_neg h]

theorem sum_apply (f : Fin 15 → Tallies) (g : GSem nD τ sig) : (∑ i, f i) g () = ∑ i, f i g () := by
  rw [Finset.sum_apply, Finsupp.finset_sum_apply]

theorem owedFrom_sum (p : Dev nD → Fin 15 → Dev nD × Kix) (f : Dev nD → Fin 15 → Tallies) (n : ℕ)
    (hf : ∀ d s, f d s = tallyAt (kcell (p d s)) () n) (x : Dev nD × Kix) :
    ∑ d, owedFrom (f d) 0 (kcell x) () = n * paidBy p x := by
  unfold paidBy
  rw [Finset.mul_sum]
  refine Finset.sum_congr rfl fun d _ => ?_
  rw [owedFrom_zero, sum_apply, Finset.mul_sum]
  refine Finset.sum_congr rfl fun s _ => ?_
  rw [hf, tally_kcell, mul_ite, mul_one, mul_zero]

theorem owed_total (x : Dev nD × Kix) :
    ∑ d, O₀ d (kcell x) () = N * paidBy recvTo x + 1 * paidBy exitTo x + 1 * paidBy barTo x := by
  rw [← owedFrom_sum recvTo recvOwe N (fun _ _ => rfl) x, ← owedFrom_sum exitTo exitOwe 1 (fun _ _ => rfl) x,
    ← owedFrom_sum barTo barOwe 1 (fun _ _ => rfl) x, ← Finset.sum_add_distrib, ← Finset.sum_add_distrib]
  refine Finset.sum_congr rfl fun d _ => ?_
  unfold O₀ O₁
  rw [Pi.add_apply, Finsupp.add_apply, Pi.add_apply, Finsupp.add_apply]

theorem launch_cell (x : Dev nD × Kix) (n : ℕ) (h : ∑ d, O₀ d (kcell x) () = n) :
    tallyOn (kcell x) (launchCredit (Pipeline.owing O₀) 0 (kcell x)) = (tallyAt (kcell x) () n : Tallies) := by
  unfold tallyAt; refine congrArg _ (Finsupp.ext fun u => ?_); cases u
  rw [Pipeline.launchCredit_owing, Finsupp.single_eq_same, h]

theorem launch_bar : tallyOn (barCell c) (launchCredit (Pipeline.owing O₀) 0 (barCell c)) = (tallyAt (barCell c) () 15 : Tallies) :=
  launch_cell _ _ (by rw [owed_total, paid_recv_hand, paid_bar_hand, paid_exit_hand]; rfl)
theorem launch_exit : tallyOn (exitCell c) (launchCredit (Pipeline.owing O₀) 0 (exitCell c)) = (tallyAt (exitCell c) () 15 : Tallies) :=
  launch_cell _ _ (by rw [owed_total, paid_recv_hand, paid_bar_hand, paid_exit_hand]; rfl)
theorem launch_recv (s : Fin 15) : tallyOn (recvCell c s) (launchCredit (Pipeline.owing O₀) 0 (recvCell c s)) = (tallyAt (recvCell c s) () N : Tallies) :=
  launch_cell _ _ (by rw [owed_total, paid_recv_recv, paid_bar_recv, paid_exit_recv, mul_zero, add_zero, mul_one, add_zero])

theorem creds_cells : (Pipeline.launchCred O₀ c : sProp 𝕄)
    ⊢ bigSep Finset.univ fun k : Kix => cred (tallyOn (kcell (c, k)) (launchCredit (Pipeline.owing O₀) 0 (kcell (c, k)))) := by
  unfold Pipeline.launchCred
  refine (bigSep_subset (Finset.subset_univ (Finset.univ.map ⟨csem, csem_injective⟩))).trans ?_
  rw [bigSep_map]
  exact BI.Entails.refl _

theorem creds : (Pipeline.launchCred O₀ c : sProp 𝕄) ⊢ credits c := by
  refine (creds_cells c).trans ?_
  unfold credits recvCred
  rw [bigSep_kix, launch_bar, launch_exit, bigSep_congr (s := Finset.univ) fun (s : Fin 15) _ => congrArg cred (launch_recv c s)]
  iintro ⟨⟨H0, H1⟩, -, H2⟩
  isplitl [H0]; · iexact H0
  isplitl [H1]; · iexact H1
  iexact H2

end Cert.AllToAllGelu

end
-- ==== Proof.Launch.lean ====
/-
# The whole run

Every weakly fair run of the program ends, with each device's result in place, its arguments as they were and every
semaphore at zero.
-/
module

public import proofs.«01_k».proof.Proof.Oblige
public import proofs.«01_k».proof.Proof.Deal
public import proofs.«01_k».proof.Proof.Credits
public import Idealize.ShloMosaic.Lib.Pipeline.CollectiveSegs

@[expose] public section

set_option maxRecDepth 20000

noncomputable section

namespace Cert.AllToAllGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem share_eq (w : Fin cfg0.W) : (dats m 0 c).share w = fullShare := Dat.share_full _ (fun _ => rfl) w

theorem stage_ne : ∀ (w : Fin 2) (k : Kix), csem k ≠ .dma (![(cfg0.win (0 : Fin 2)).sem 0, (cfg0.win (1 : Fin 2)).sem 0] w) := by decide +kernel
theorem lv_stage (w : Fin cfg0.W) (s : Fin (cfg0.win w).nbuf) : lv ((c : Thread nD τ), .dma ((cfg0.win w).sem s)) () = 0 := by
  unfold lv
  rw [kindOf_other (sm := .dma ((cfg0.win w).sem s)) (by
    have h0 := stage_ne 0
    have h1 := stage_ne 1
    fin_cases w <;> fin_cases s
    · exact h0
    · exact h1)]
  rfl

theorem above_owed (t : Fin (cfg0.N + 1)) : Above 0 ((dats m 0 c).owed t) := by
  rcases t with ⟨_ | _, ht⟩
  · exact above_O₀ c
  · exact Above.zero

theorem waits : (levAts L lv : sProp 𝕄) ⊢ Pipeline.cellsWaits cfgs (dats m) () 0 c :=
  Pipeline.cellsWaits_intro cfgs (dats m) () 0 c fun w s t =>
    mayWait c _ (above_owed m c _) (Nat.le_of_eq (lv_stage c w s))

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start wWhole
  isplitl
  · isplitl [HG]; · iexact HG
    isplitl [Hc]; · iexact Hc
    isplitl [Hlev]; · iexact Hlev
    iexact Hw
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch someBuf
  iintro ⟨Hs, -, Hr⟩
  isplitl [Hs]; · iexact Hs
  iexact Hr

/-- What the region leaves outside it. -/
def out : sProp 𝕄 := iprop(unscopedSems0 c ∗ wWhole m c)

theorem phi1_exit :
    (dats m 0 c).Φ (Fin.last cfg0.N) ⊢ iprop(out m c ∗ Pipeline.ownSems0 osem c ∗ Pipeline.scopedRest cfg0.spec c) := by
  rw [show (dats m 0 c).Φ (Fin.last cfg0.N) = Φ₁ m c from rfl, scopedRest0_eq, ownSems0_eq]
  unfold Φ₁ out scratch someBuf
  rw [unscopedSems0_eq]

/-! ## The run -/

def finalA (w : Fin cfg0.W) : Buf (Elt F) ((cfg0.win w).arr.view.loc (c : Thread nD τ)) := (dats m 0 c).arrAt w cfg0.N

def Finished (r : PUnit × MemSt nD τ sig (Elt F)) : Prop :=
  ∀ c : Dev nD, (∀ w : Fin cfg0.W, r.2.mem ((cfg0.win w).arr.view.loc (c : Thread nD τ)) = finalA m c w) ∧ r.2.mem (wLoc c) = m (wLoc c)

/-- At the mesh of sixteen devices, for any float values, from any memory with every semaphore at zero. -/
theorem run_main : θ_run defs (onTc (τ := τ) (main (F := F))) ⟨m, fun _ => 0, ρ⟩ (fun r => Finished m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (u₀_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := out m) (Z := fun _ => iprop(emp))
    (hX := start_intro m ρ) (hin := phi0_intro m) (hout := phi1_exit m)
    (QY := fun c s => s.mem (wLoc c) = m (wLoc c) ∧ ∀ sm : SemLoc sig, sm.isScoped .tc = false → s.sem ((c.tc : Thread nD τ), sm) = 0)
    (hY := fun c s' => by
      unfold out wWhole
      iintro ⟨⟨Hu, Hw⟩, -, HSI⟩
      icombine HSI Hw gives %h0
      imod (Pipeline.unscopedSems0_read (X := unscopedSems0 c) (c := c) fupd_intro s') $$ [Hu HSI] with ⟨%h1, HSI⟩
      · isplitl [Hu] <;> iassumption
      imodintro
      isplitr; · ipureintro; exact ⟨Buf.eq_of_forall_mem_univ h0, h1⟩
      iexact HSI)
    (hQ := fun _ h hs => ⟨fun c => ⟨fun w => (h c).1 w, (h c).2.2.1⟩, sem_eq_zero hs fun c => (h c).2.2.2⟩)

/-- The rows of `x` are as they were. -/
theorem finalA_x : finalA m c (0 : Fin 2) = m (win0_0.arr.view.loc (c : Thread nD τ)) := (dats (F := F) m 0 c).arrAt_in (0 : Fin 2) rfl _

/-- The frame: the arguments as they were, every semaphore at zero. -/
theorem frame_of {r : PUnit × MemSt nD τ sig (Elt F)} (h : Finished m r) (c : Dev nD) :
    r.2.mem ((c : Thread nD τ).loc main_arg0) = m ((c : Thread nD τ).loc main_arg0)
      ∧ r.2.mem ((c : Thread nD τ).loc main_arg1) = m ((c : Thread nD τ).loc main_arg1) :=
  ⟨((h c).1 (0 : Fin 2)).trans (finalA_x m c), (h c).2⟩

end Cert.AllToAllGelu

end
-- ==== Proof.Value.lean ====
/-
# What the arrays hold at the end

The staged rows of `x` are the rows of `x`, the columns a product reads are those columns of `w_mat`, and the result
array ends as the staging buffer was left.
-/
module

public import proofs.«01_k».proof.Proof.Launch

@[expose] public section

set_option maxRecDepth 20000

noncomputable section

namespace Cert.AllToAllGelu

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (c : Dev nD)

theorem xstg_eq : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem cols_apply (e : Dev nD) (k : Fin 4096) (j : Fin 512) :
    cols m c e (ValueIdx.ix2 k j) = m ((c : Thread nD τ).loc main_arg1)
      (ValueIdx.ix2 (n0 := 4096) (n1 := 8192) k ⟨e.val * 512 + j.val, by have : e.val < 16 := e.isLt; omega⟩) := by
  unfold cols
  refine congrArg (m ((c : Thread nD τ).loc main_arg1)) (funext fun a => Fin.ext ?_)
  fin_cases a
  · show 0 + 1 * k.val = k.val
    omega
  · show 512 * e.val + 1 * j.val = e.val * 512 + j.val
    omega

/-- The result array's one block, all of it, ends as the body left the staging buffer. -/
theorem finalA_y : finalA m c (1 : Fin 2) = outAt m c := by
  have ho : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans ho

end Cert.AllToAllGelu

end
-- ==== Proof.Gelu.lean ====
/-
# The values over the reals

Over the reals the casts are the identity, so a block of rows through the kernel's body is gelu of
the product at each index, and so is the reference.
-/
module

public import proofs.«01_k».proof.Proof.Gen.ReferenceIdeal.Run
public import proofs.«01_k».proof.Proof.Cells
public import Idealize.ShloMosaic.Lib.Pointwise

@[expose] public section

set_option maxRecDepth 20000

noncomputable section

namespace Cert.AllToAllGelu

open Idealize.ShloMosaic

/-- A float word as the real it stands for. -/
abbrev word (b : BitVec 32) : EReal := (Scalar.ofBits .f32 b : Ideal .f32)

/-- The tanh form of gelu. -/
def gelu (y : EReal) : EReal :=
  word 0x3F000000#32 * y * (word 0x3F800000#32 + Ideal.tanh (word 0x3F4C422A#32 * (y + word 0x3D372713#32 * (y * y * y))))

/-- An entry of a product. -/
def dotAt {a b : Nat} (x : (⟨2, ![a, 4096]⟩ : Shape).Idx → EReal) (w : (⟨2, ![4096, b]⟩ : Shape).Idx → EReal) (i : Fin a) (j : Fin b) : EReal :=
  ∑ k : Fin 4096, x (ValueIdx.ix2 i k) * w (ValueIdx.ix2 k j)

section Kernel

open Cert.KernelIdeal Cert.KernelIdeal.Gen

theorem blk_apply (x : Vec Ideal S256x4096 .bf16) (w : Vec Ideal S4096x512 .f32) (i : Fin 256) (j : Fin 512) :
    blk (F := Ideal) x w (ValueIdx.ix2 i j) = gelu (dotAt (a := 256) (b := 512) x w i j) := by
  unfold blk blockOf k0_pay34 gelu dotAt
  rw [shapeCast_shapeCast]
  pointwise
  simp only [mul_assoc]
  rfl

end Kernel

section Reference

open Cert.ReferenceIdeal Cert.ReferenceIdeal.Gen

/-- What the reference leaves, of its two arguments. -/
def refOf (x : FVec Ideal S4096x4096 .f32) (w : FVec Ideal S4096x8192 .f32) : FVec Ideal S4096x8192 .f32 :=
  let y : FVec Ideal S4096x8192 .f32 := Host.dotGeneral dot_S4096x4096_S4096x8192_S4096x8192_1_0_0_1_n_n none x w
  mulf (mulf (broadcastInDim S4096x8192 ![] bcast_S_S4096x8192 (constant S_ .f32 0x3F000000#32)) y)
    (addf (broadcastInDim S4096x8192 ![] bcast_S_S4096x8192 (constant S_ .f32 0x3F800000#32))
      (Host.tanh (mulf (broadcastInDim S4096x8192 ![] bcast_S_S4096x8192 (constant S_ .f32 0x3F4C422A#32))
        (addf y (mulf (broadcastInDim S4096x8192 ![] bcast_S_S4096x8192 (constant S_ .f32 0x3D372713#32))
          (mulf (mulf y y) y))))))

theorem refOf_apply (x : FVec Ideal S4096x4096 .f32) (w : FVec Ideal S4096x8192 .f32) (i : Fin 4096) (j : Fin 8192) :
    refOf x w (ValueIdx.ix2 i j) = gelu (dotAt (a := 4096) (b := 8192) x w i j) := by
  unfold refOf gelu dotAt
  pointwise
  rfl

end Reference

end Cert.AllToAllGelu

end
-- ==== Proof.Agree.lean ====
/-
# The result is the reference's

Device `c` holds the columns of `c` in the reference's result: row `256 * d + a` of it comes from device `d`, whose row
`a` is that row of `x`.
-/
module

public import proofs.«01_k».proof.Proof.Value
public import proofs.«01_k».proof.Proof.Gelu
public import Idealize.ShloMosaic.Lib.Layout

@[expose] public section

set_option maxRecDepth 20000

noncomputable section

namespace Cert.AllToAllGelu

open Cert.KernelIdeal Cert.KernelIdeal.Gen
open Idealize.ShloMosaic Idealize.ShloMosaic.TcCoe Idealize.SL.Sem

variable (m : (ℓ : Loc nD τ sig) → Buf (Elt Ideal) ℓ)

/-- A row is the same whether it was sent or kept: the casts of the message change nothing. -/
theorem rowsOf_ideal (c d : Dev nD) : rowsOf m c d = blk (xb m d) (cols m d c) := by
  unfold rowsOf
  split
  · next h => subst h; rfl
  · rfl

/-- The cast of the rows of `x` changes nothing. -/
theorem xb_ideal (d : Dev nD) (i : S256x4096.Idx) : xb m d i = m ((d : Thread nD τ).loc main_arg0) i := by
  unfold xb k0_pay1
  rw [xstg_eq, shapeCast_self]
  exact congrFun (shapeCast_self (m ((d : Thread nD τ).loc main_arg0)) shapeCasts_S256x4096_S256x4096) i

variable (x : (⟨2, ![4096, 4096]⟩ : Shape).Idx → EReal) (w : (⟨2, ![4096, 8192]⟩ : Shape).Idx → EReal)

theorem outAt_ideal
    (hx : ∀ c : Dev nD, m ((c : Thread nD τ).loc main_arg0) = Layout.block ⟨2, ![256, 4096]⟩ ⟨2, ![4096, 4096]⟩ 0 16 c x)
    (hw : ∀ c : Dev nD, m ((c : Thread nD τ).loc main_arg1) = w) (c : Dev nD) :
    outAt m c = Layout.block ⟨2, ![4096, 512]⟩ ⟨2, ![4096, 8192]⟩ 1 16 c (refOf x w) := by
  funext i
  obtain ⟨r, j, rfl⟩ : ∃ (r : Fin 4096) (j : Fin 512), (i : S4096x512.Idx) = ValueIdx.ix2 r j := ⟨_, _, ValueIdx.eq_ix2 i⟩
  have hc : c.val < 16 := c.isLt
  have hd : r.val / 256 < 16 := by omega
  have hb : (Layout.block ⟨2, ![4096, 512]⟩ ⟨2, ![4096, 8192]⟩ 1 16 c (refOf x w) : S4096x512.Idx → EReal) (ValueIdx.ix2 r j)
      = refOf x w (ValueIdx.ix2 r (⟨c.val * 512 + j.val, by omega⟩ : Fin 8192)) := by
    refine congrArg (refOf x w) (funext fun a => Fin.ext ?_)
    fin_cases a <;> rfl
  refine Eq.trans ?_ hb.symm
  rw [refOf_apply]
  show rowsOf m c ⟨r.val / 256, hd⟩ (ValueIdx.ix2 (⟨r.val % 256, Nat.mod_lt _ (by decide)⟩ : Fin 256) j) = _
  rw [rowsOf_ideal, blk_apply]
  refine congrArg gelu (Finset.sum_congr rfl fun k _ => ?_)
  rw [xb_ideal, cols_apply, hx, hw]
  refine congrArg (· * _) (congrArg x (funext fun a => Fin.ext ?_))
  fin_cases a
  · show r.val / 256 * 256 + r.val % 256 = r.val
    omega
  · rfl

end Cert.AllToAllGelu

end
-- ==== Proof.lean ====
/-
# The proof of the claims
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Agree

@[expose] public section

noncomputable section

namespace Cert.Proof

open Idealize.ShloMosaic Idealize.SL.Sem Cert.AllToAllGelu

variable {F : FTy → Type} [FloatOps F]

/-- The kernel runs, over any float values: its arguments as they were, every semaphore back at zero. -/
theorem frame_any (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run _ _ _).mono (fun _ h => ⟨fun c => frame_of m h.1 c, h.2⟩) (run_main (F := F) m ρ)

theorem frame_kernel : Cert.quiescent_Kernel := fun m ρ _ => by
  rw [defs_eq]
  exact frame_any (F := Bits) m ρ

theorem frame_kernelIdeal : Cert.quiescent_KernelIdeal := fun m ρ _ => frame_any (F := Ideal) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals the devices end with the columns of the reference's result. -/
theorem algebraic : Cert.algebraic_KernelIdeal_ReferenceIdeal := by
  intro m g m' g' _ h
  refine ⟨refOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run _ _ _).mono (fun r hr c => ⟨?_, frame_of m hr.1 c⟩) (run_main (F := Ideal) m g)
    exact (((hr.1 c).1 (1 : Fin 2)).trans (finalA_y m c)).trans
      (outAt_ideal m _ _ (fun d => (h d).1) (fun d => (h d).2) c)
  · exact (θ_run _ _ _).mono (fun r hr => hr 0) (Cert.ReferenceIdeal.Value.run (F := Ideal) m' g')

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
